-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x4608 : Shape := ⟨3, ![2, 4096, 4608]⟩
abbrev S4608x18x2x128 : Shape := ⟨4, ![4608, 18, 2, 128]⟩
abbrev S18x2x128 : Shape := ⟨3, ![18, 2, 128]⟩
abbrev S18x2x4608x128 : Shape := ⟨4, ![18, 2, 4608, 128]⟩
abbrev S2x4096x2304 : Shape := ⟨3, ![2, 4096, 2304]⟩
abbrev S18x2x4096 : Shape := ⟨3, ![18, 2, 4096]⟩
abbrev S2x1x4096 : Shape := ⟨3, ![2, 1, 4096]⟩
abbrev S2x128x4608 : Shape := ⟨3, ![2, 128, 4608]⟩
abbrev S2x256x2304 : Shape := ⟨3, ![2, 256, 2304]⟩
abbrev S18x2x256 : Shape := ⟨3, ![18, 2, 256]⟩
abbrev S2x256x4608 : Shape := ⟨3, ![2, 256, 4608]⟩
abbrev S2x1x256 : Shape := ⟨3, ![2, 1, 256]⟩
abbrev S256x4608 : Shape := ⟨2, ![256, 4608]⟩
abbrev S256x128 : Shape := ⟨2, ![256, 128]⟩
abbrev S1x32x4608 : Shape := ⟨3, ![1, 32, 4608]⟩
abbrev S32x4608 : Shape := ⟨2, ![32, 4608]⟩
abbrev S32x128 : Shape := ⟨2, ![32, 128]⟩
abbrev S32 : Shape := ⟨1, ![32]⟩
abbrev S32x1 : Shape := ⟨2, ![32, 1]⟩
abbrev S128x4608 : Shape := ⟨2, ![128, 4608]⟩
abbrev S1x128x4608 : Shape := ⟨3, ![1, 128, 4608]⟩
abbrev S128x128 : Shape := ⟨2, ![128, 128]⟩
abbrev S1x128 : Shape := ⟨2, ![1, 128]⟩
abbrev S1x1x128 : Shape := ⟨3, ![1, 1, 128]⟩
abbrev S1x1x4608x128 : Shape := ⟨4, ![1, 1, 4608, 128]⟩
abbrev S4608x128 : Shape := ⟨2, ![4608, 128]⟩
abbrev S4608x512 : Shape := ⟨2, ![4608, 512]⟩
abbrev S256x512 : Shape := ⟨2, ![256, 512]⟩
abbrev S256 : Shape := ⟨1, ![256]⟩
abbrev S256x1 : Shape := ⟨2, ![256, 1]⟩
abbrev S1x128x128 : Shape := ⟨3, ![1, 128, 128]⟩
abbrev S2x4096x18 : Shape := ⟨3, ![2, 4096, 18]⟩
abbrev S2x4096x1 : Shape := ⟨3, ![2, 4096, 1]⟩

abbrev nBuf : Space → Nat
  | .hbm => 10
  | .vmem => 19
  | .smem => 0
  | _ => 0

abbrev bufTy : (tb : Table) → Fin (tcTables nBuf tb) → BufTy
  | .hbm, ⟨0, _⟩ => ⟨S2x4096x4608, .bf16⟩
  | .hbm, ⟨1, _⟩ => ⟨S4608x18x2x128, .fp8e4m3⟩
  | .hbm, ⟨2, _⟩ => ⟨S18x2x128, .f32⟩
  | .hbm, ⟨3, _⟩ => ⟨S18x2x4608x128, .fp8e4m3⟩
  | .hbm, ⟨4, _⟩ => ⟨S2x4096x2304, .fp8e4m3⟩
  | .hbm, ⟨5, _⟩ => ⟨S18x2x4096, .f32⟩
  | .hbm, ⟨6, _⟩ => ⟨S2x4096x4608, .fp8e4m3⟩
  | .hbm, ⟨7, _⟩ => ⟨S2x1x4096, .f32⟩
  | .hbm, ⟨8, _⟩ => ⟨S2x4096x18, .f32⟩
  | .hbm, ⟨9, _⟩ => ⟨S2x4096x1, .f32⟩
  | .local _ .vmem, ⟨0, _⟩ => ⟨S2x128x4608, .bf16⟩
  | .local _ .vmem, ⟨1, _⟩ => ⟨S2x128x4608, .bf16⟩
  | .local _ .vmem, ⟨2, _⟩ => ⟨S2x128x4608, .bf16⟩
  | .local _ .vmem, ⟨3, _⟩ => ⟨S2x128x4608, .bf16⟩
  | .local _ .vmem, ⟨4, _⟩ => ⟨S2x128x4608, .bf16⟩
  | .local _ .vmem, ⟨5, _⟩ => ⟨S18x2x4608x128, .fp8e4m3⟩
  | .local _ .vmem, ⟨6, _⟩ => ⟨S18x2x128, .f32⟩
  | .local _ .vmem, ⟨7, _⟩ => ⟨S2x256x2304, .fp8e4m3⟩
  | .local _ .vmem, ⟨8, _⟩ => ⟨S2x256x2304, .fp8e4m3⟩
  | .local _ .vmem, ⟨9, _⟩ => ⟨S18x2x256, .f32⟩
  | .local _ .vmem, ⟨10, _⟩ => ⟨S18x2x256, .f32⟩
  | .local _ .vmem, ⟨11, _⟩ => ⟨S2x256x4608, .fp8e4m3⟩
  | .local _ .vmem, ⟨12, _⟩ => ⟨S2x256x4608, .fp8e4m3⟩
  | .local _ .vmem, ⟨13, _⟩ => ⟨S2x1x256, .f32⟩
  | .local _ .vmem, ⟨14, _⟩ => ⟨S2x1x256, .f32⟩
  | .local _ .vmem, ⟨15, _⟩ => ⟨S256x4608, .fp8e4m3⟩
  | .local _ .vmem, ⟨16, _⟩ => ⟨S256x4608, .fp8e4m3⟩
  | .local _ .vmem, ⟨17, _⟩ => ⟨S256x128, .f32⟩
  | .local _ .vmem, ⟨18, _⟩ => ⟨S256x128, .f32⟩
  | _, _ => ⟨S2x4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c31_i32 : BitVec 32 := 31#32
  let v2 : BitVec 32 := Scalar.minsi v1 c31_i32
  let c0_i32 : BitVec 32 := 0#32
  let c0_i32_1 : BitVec 32 := 0#32
  let c0_i32_2 : BitVec 32 := 0#32
  ![c0_i32.toNat, v2.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2x128x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S18x2x4608x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S18x2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x2304 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S18x2x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x4608 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S2x4096x4608 : Shape := ⟨3, ![2, 4096, 4608]⟩
abbrev S4608x18x2x128 : Shape := ⟨4, ![4608, 18, 2, 128]⟩
abbrev S18x2x128 : Shape := ⟨3, ![18, 2, 128]⟩
abbrev S2x4096x2304 : Shape := ⟨3, ![2, 4096, 2304]⟩
abbrev S2x4096x18 : Shape := ⟨3, ![2, 4096, 18]⟩
abbrev S2x4096x1 : Shape := ⟨3, ![2, 4096, 1]⟩
abbrev S2x4096 : Shape := ⟨2, ![2, 4096]⟩
abbrev S2x4096x18x2x128 : Shape := ⟨5, ![2, 4096, 18, 2, 128]⟩
abbrev S2x4096x1x1x1 : Shape := ⟨5, ![2, 4096, 1, 1, 1]⟩
abbrev S1x1x18x2x128 : Shape := ⟨5, ![1, 1, 18, 2, 128]⟩
abbrev S2x4096x18x1x128 : Shape := ⟨5, ![2, 4096, 18, 1, 128]⟩
abbrev S2x4096x18x128 : Shape := ⟨4, ![2, 4096, 18, 128]⟩
abbrev S2x4096x18x1 : Shape := ⟨4, ![2, 4096, 18, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x4608, .bf16⟩
  | .hbm, ⟨1, _⟩ => ⟨S4608x18x2x128, .fp8e4m3⟩
  | .hbm, ⟨2, _⟩ => ⟨S18x2x128, .f32⟩
  | .hbm, ⟨3, _⟩ => ⟨S2x4096x2304, .fp8e4m3⟩
  | .hbm, ⟨4, _⟩ => ⟨S2x4096x18, .f32⟩
  | .hbm, ⟨5, _⟩ => ⟨S2x4096x4608, .fp8e4m3⟩
  | .hbm, ⟨6, _⟩ => ⟨S2x4096x1, .f32⟩
  | .local _ .vmem, ⟨0, _⟩ => ⟨S2x4096x4608, .bf16⟩
  | .local _ .vmem, ⟨1, _⟩ => ⟨S4608x18x2x128, .fp8e4m3⟩
  | .local _ .vmem, ⟨2, _⟩ => ⟨S18x2x128, .f32⟩
  | .local _ .vmem, ⟨3, _⟩ => ⟨S2x4096x2304, .fp8e4m3⟩
  | .local _ .vmem, ⟨4, _⟩ => ⟨S2x4096x18, .f32⟩
  | .local _ .vmem, ⟨5, _⟩ => ⟨S2x4096x4608, .fp8e4m3⟩
  | .local _ .vmem, ⟨6, _⟩ => ⟨S2x4096x1, .f32⟩
  | _, _ => ⟨S2x4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x4096x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x18x2x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S18x2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x4096x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x4096x18 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x4096x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Struct.lean ====
module

public import proofs.«01_k».proof.Proof.Gen.KernelIdeal
public import Idealize.ShloMosaic.Lib.Tactic

/-! # The kernel body as four loops

The printed body is one straight line of some fifteen thousand operations. Here the same operations are
written as what they are repetitions of: a quantiser's row chunk and its lane chunk, a matmul's pair of
groups and its single group. `body_first` and `body_rest` say that the printed body is this program, at the
first grid point and at the others; both sides unfold to the same list of operations. -/

@[expose] public section

set_option maxRecDepth 16384

noncomputable section

namespace Cert.KernelIdeal.Body

open Idealize.ShloMosaic Idealize.SL.Sem
open Cert.KernelIdeal.Shapes1.Facts₀

variable {F : FTy → Type} [FloatOps F]

/-- A program of the kernel's core. -/
abbrev P (F : FTy → Type) [FloatOps F] := Prog (TpuEff nD τ sig (Elt F) Λ₀ .tc) PUnit

/-- `N` steps in order, a value handed from each to the next, then `κ`; `n` steps are still to run. -/
def loop {A : Type} {R : Type 1} (N : ℕ) (step : (j : ℕ) → j < N → A → (A → R) → R) (κ : A → R) :
    (n : ℕ) → n ≤ N → A → R
  | 0, _, a => κ a
  | n + 1, h, a => step (N - (n + 1)) (by omega) a (fun a' => loop N step κ n (by omega) a')

section bounds
theorem inb2 {o0 o1 s0 s1 t0 t1 : ℕ} (h0 : o0 + s0 ≤ t0) (h1 : o1 + s1 ≤ t1) :
    ∀ a, (![o0, o1] : Fin 2 → ℕ) a + (![s0, s1] : Fin 2 → ℕ) a ≤ (![t0, t1] : Fin 2 → ℕ) a := by
  intro a; fin_cases a <;> assumption
theorem inb3 {o0 o1 o2 s0 s1 s2 t0 t1 t2 : ℕ} (h0 : o0 + s0 ≤ t0) (h1 : o1 + s1 ≤ t1) (h2 : o2 + s2 ≤ t2) :
    ∀ a, (![o0, o1, o2] : Fin 3 → ℕ) a + (![s0, s1, s2] : Fin 3 → ℕ) a ≤ (![t0, t1, t2] : Fin 3 → ℕ) a := by
  intro a; fin_cases a <;> assumption
theorem inb4 {o0 o1 o2 o3 s0 s1 s2 s3 t0 t1 t2 t3 : ℕ} (h0 : o0 + s0 ≤ t0) (h1 : o1 + s1 ≤ t1) (h2 : o2 + s2 ≤ t2)
    (h3 : o3 + s3 ≤ t3) :
    ∀ a, (![o0, o1, o2, o3] : Fin 4 → ℕ) a + (![s0, s1, s2, s3] : Fin 4 → ℕ) a ≤ (![t0, t1, t2, t3] : Fin 4 → ℕ) a := by
  intro a; fin_cases a <;> assumption

theorem inb_x (j : ℕ) (hj : j < 8) :
    ∀ a, (![j / 4, 32 * (j % 4), 0] : Fin 3 → ℕ) a + S1x32x4608.size a ≤ S2x128x4608.size a :=
  inb3 (s0 := 1) (s1 := 32) (s2 := 4608) (t0 := 2) (t1 := 128) (t2 := 4608) (by omega) (by omega) (by omega)
theorem inb_row (j : ℕ) (hj : j < 8) : ∀ a, (![32 * j, 0] : Fin 2 → ℕ) a + S32x128.size a ≤ S256x128.size a :=
  inb2 (s0 := 32) (s1 := 128) (t0 := 256) (t1 := 128) (by omega) (by omega)
theorem inb_code (j c : ℕ) (hj : j < 8) (hc : c < 36) :
    ∀ a, (![32 * j, 128 * c] : Fin 2 → ℕ) a + S32x128.size a ≤ S256x4608.size a :=
  inb2 (s0 := 32) (s1 := 128) (t0 := 256) (t1 := 4608) (by omega) (by omega)
theorem packed_code (j c : ℕ) (hj : j < 8) (hc : c < 36) :
    (Rect.unit (s := S256x4608) ![32 * j, 128 * c] S32x128.size (inb_code j c hj hc)).PackedRows
      (EltTy.packing .fp8e4m3) := by
  refine .inr ⟨by decide, rfl, .inl ⟨?_, ?_⟩⟩
  swap; · exact (by decide : EltTy.packing .fp8e4m3 ∣ 32)
  exact Dvd.dvd.mul_right (by decide : EltTy.packing .fp8e4m3 ∣ 32) j
theorem slices_x (c : ℕ) (hc : c < 36) : S32x4608.Slices ![0, 128 * c] S32x128 := by
  refine ⟨rfl, ?_⟩
  exact inb2 (s0 := 32) (s1 := 128) (t0 := 32) (t1 := 4608) (by omega) (by omega)
end bounds

/-! ## The quantiser -/

/-- The running maximum over the lane chunks of a row chunk: after `c + 1` of them. -/
def chunkMax (x : FVec F S32x4608 .bf16) : (c : ℕ) → c < 36 → FVec F S32x128 .bf16
  | 0, _ => extractStridedSlice S32x128 ![0, 0] (absf x) (slices_x 0 (by decide))
  | c + 1, h => maximumf (chunkMax x c (by omega))
      (extractStridedSlice S32x128 ![0, 128 * (c + 1)] (absf x) (slices_x (c + 1) h))

/-- A row chunk's largest magnitudes, along every lane. -/
def rowMax (x : FVec F S32x4608 .bf16) : FVec F S32x128 .f32 :=
  broadcastTo S32x128 (shapeCast S32x1 (shapeCast S32x1 (multiReduction .maximumf [1] S32
    (extf .f32 (chunkMax x 35 (by decide)) bitsLt_bf16_f32) 0xFF800000#32 reduces_S32x128_S32 (.inl rfl) rfl)
    shapeCasts_S32_S32x1) shapeCasts_S32x1_S32x1) broadcasts_S32x1_S32x128

/-- The scale's exponent from the largest magnitude. -/
def expo {s : Shape} (a : FVec F s .f32) : FVec F s .f32 :=
  select (cmpf .ogt (mulf a (broadcast s (Scalar.ofBits .f32 0x3B124925#32))) (broadcast s (Scalar.ofBits .f32 0x00000000#32)))
    (addf (floor (divf (log (mulf a (broadcast s (Scalar.ofBits .f32 0x3B124925#32))))
      (log (broadcast s (Scalar.ofBits .f32 0x40000000#32))))) (broadcast s (Scalar.ofBits .f32 0x3F800000#32)))
    (broadcast s (Scalar.ofBits .f32 0x00000000#32))

/-- Two to the negated exponent. -/
def expoInv {s : Shape} (a : FVec F s .f32) : FVec F s .f32 :=
  exp2 (subf (broadcast s (Scalar.ofBits .f32 0x00000000#32)) (expo a))

/-- A lane chunk's codes. -/
def chunkCode (x : FVec F S32x4608 .bf16) (v : FVec F S32x128 .bf16) (c : ℕ) (hc : c < 36) : FVec F S32x128 .fp8e4m3 :=
  shapeCast S32x128 (truncf .fp8e4m3 (minimumf (broadcast S32x128 (Scalar.ofBits .bf16 0x43E0#16))
    (maximumf (broadcast S32x128 (Scalar.ofBits .bf16 0xC3E0#16))
      (mulf (extractStridedSlice S32x128 ![0, 128 * c] x (slices_x c hc)) v))) bitsLt_fp8e4m3_bf16)
    shapeCasts_S32x128_S32x128

/-- One lane chunk of one row chunk. -/
def laneStep (cm : Memref sig .tc .vmem S256x4608 .fp8e4m3) (hc : cm.IsWhole)
    (x : FVec F S32x4608 .bf16) (v : FVec F S32x128 .bf16) (j : ℕ) (hj : j < 8) (c : ℕ) (h : c < 36) (_ : PUnit.{1})
    (κ : PUnit.{1} → P F) : P F :=
  .op (.load cm (Rect.unit (s := S256x4608) ![32 * j, 128 * c] S32x128.size (inb_code j c hj h)).toLoadRect
    (View.loadsAt_vmem h_S32x128)) fun _ =>
  .op (.store cm (Rect.unit (s := S256x4608) ![32 * j, 128 * c] S32x128.size (inb_code j c hj h))
    (chunkCode x v c h) Finset.univ
    (View.stores_vmem h_S32x128 (hc.storeExact_slice rfl _ (packed_code j c hj h)) (fun _ => rfl)) (.inl rfl)) fun _ =>
  κ ⟨⟩

/-- One row chunk: its scale, then its codes lane chunk by lane chunk. -/
def rowStep (xm : Memref sig .tc .vmem S2x128x4608 .bf16) (cm : Memref sig .tc .vmem S256x4608 .fp8e4m3) (hc : cm.IsWhole)
    (sm : Memref sig .tc .vmem S256x128 .f32) (j : ℕ) (hj : j < 8) (_ : PUnit.{1}) (κ : PUnit.{1} → P F) : P F :=
  .op (.load xm (Rect.unit (s := S2x128x4608) ![j / 4, 32 * (j % 4), 0] S1x32x4608.size (inb_x j hj)).toLoadRect
    (View.loadsAt_vmem h_S1x32x4608)) fun (x : Vec F S1x32x4608 .bf16) =>
  .op (.load sm (Rect.unit (s := S256x128) ![32 * j, 0] S32x128.size (inb_row j hj)).toLoadRect
    (View.loadsAt_vmem h_S32x128)) fun _ =>
  .op (.store sm (Rect.unit (s := S256x128) ![32 * j, 0] S32x128.size (inb_row j hj))
    (shapeCast S32x128 (exp2 (expo (rowMax (shapeCast S32x4608 x shapeCasts_S1x32x4608_S32x4608)))) shapeCasts_S32x128_S32x128)
    Finset.univ (View.stores_vmem_bits_univ h_S32x128 rfl) (.inl rfl)) fun _ =>
  loop 36 (laneStep cm hc (shapeCast S32x4608 x shapeCasts_S1x32x4608_S32x4608)
    (truncf .bf16 (expoInv (rowMax (shapeCast S32x4608 x shapeCasts_S1x32x4608_S32x4608))) bitsLt_bf16_f32) j hj)
    κ 36 (le_refl _) ⟨⟩

/-- The quantiser over a tile of `x`: its codes and scales into the two scratch buffers. -/
def quant (xm : Memref sig .tc .vmem S2x128x4608 .bf16) (cm : Memref sig .tc .vmem S256x4608 .fp8e4m3) (hc : cm.IsWhole)
    (sm : Memref sig .tc .vmem S256x128 .f32) (κ : P F) : P F :=
  loop 8 (rowStep xm cm hc sm) (fun _ => κ) 8 (le_refl _) ⟨⟩

/-! ## The matmul -/

section bounds
theorem inb_cb (b : ℕ) (hb : b < 2) : ∀ a, (![128 * b, 0] : Fin 2 → ℕ) a + S128x4608.size a ≤ S256x4608.size a :=
  inb2 (s0 := 128) (s1 := 4608) (t0 := 256) (t1 := 4608) (by omega) (by omega)
theorem inb_sb (b : ℕ) (hb : b < 2) : ∀ a, (![128 * b, 0] : Fin 2 → ℕ) a + S128x128.size a ≤ S256x128.size a :=
  inb2 (s0 := 128) (s1 := 128) (t0 := 256) (t1 := 128) (by omega) (by omega)
theorem inb_xc (t b : ℕ) (ht : t < 2) (hb : b < 2) :
    ∀ a, (![b, 128 * t, 0] : Fin 3 → ℕ) a + S1x128x4608.size a ≤ S2x256x4608.size a :=
  inb3 (s0 := 1) (s1 := 128) (s2 := 4608) (t0 := 2) (t1 := 256) (t2 := 4608) (by omega) (by omega) (by omega)
theorem packed_xc (t b : ℕ) (ht : t < 2) (hb : b < 2) :
    (Rect.unit (s := S2x256x4608) ![b, 128 * t, 0] S1x128x4608.size (inb_xc t b ht hb)).PackedRows
      (EltTy.packing .fp8e4m3) := by
  refine .inr ⟨by decide, rfl, .inl ⟨?_, ?_⟩⟩
  swap; · exact (by decide : EltTy.packing .fp8e4m3 ∣ 128)
  exact Dvd.dvd.mul_right (by decide : EltTy.packing .fp8e4m3 ∣ 128) t
theorem inb_xs (t b : ℕ) (ht : t < 2) (hb : b < 2) :
    ∀ a, (![b, 0, 128 * t] : Fin 3 → ℕ) a + S1x1x128.size a ≤ S2x1x256.size a :=
  inb3 (s0 := 1) (s1 := 1) (s2 := 128) (t0 := 2) (t1 := 1) (t2 := 256) (by omega) (by omega) (by omega)
theorem inb_w (g h : ℕ) (hg : g < 18) (hh : h < 2) :
    ∀ a, (![g, h, 0, 0] : Fin 4 → ℕ) a + S1x1x4608x128.size a ≤ S18x2x4608x128.size a :=
  inb4 (s0 := 1) (s1 := 1) (s2 := 4608) (s3 := 128) (t0 := 18) (t1 := 2) (t2 := 4608) (t3 := 128)
    (by omega) (by omega) (by omega) (by omega)
theorem inb_ws (g h : ℕ) (hg : g < 18) (hh : h < 2) :
    ∀ a, (![g, h, 0] : Fin 3 → ℕ) a + S1x1x128.size a ≤ S18x2x128.size a :=
  inb3 (s0 := 1) (s1 := 1) (s2 := 128) (t0 := 18) (t1 := 2) (t2 := 128) (by omega) (by omega) (by omega)
theorem inb_hc (t b g : ℕ) (ht : t < 2) (hb : b < 2) (hg : g < 18) :
    ∀ a, (![b, 128 * t, 128 * g] : Fin 3 → ℕ) a + S1x128x128.size a ≤ S2x256x2304.size a :=
  inb3 (s0 := 1) (s1 := 128) (s2 := 128) (t0 := 2) (t1 := 256) (t2 := 2304) (by omega) (by omega) (by omega)
theorem packed_hc (t b g : ℕ) (ht : t < 2) (hb : b < 2) (hg : g < 18) :
    (Rect.unit (s := S2x256x2304) ![b, 128 * t, 128 * g] S1x128x128.size (inb_hc t b g ht hb hg)).PackedRows
      (EltTy.packing .fp8e4m3) := by
  refine .inr ⟨by decide, rfl, .inl ⟨?_, ?_⟩⟩
  swap; · exact (by decide : EltTy.packing .fp8e4m3 ∣ 128)
  exact Dvd.dvd.mul_right (by decide : EltTy.packing .fp8e4m3 ∣ 128) t
theorem inb_hs (t b g : ℕ) (ht : t < 2) (hb : b < 2) (hg : g < 18) :
    ∀ a, (![g, b, 128 * t] : Fin 3 → ℕ) a + S1x1x128.size a ≤ S18x2x256.size a :=
  inb3 (s0 := 1) (s1 := 1) (s2 := 128) (t0 := 18) (t1 := 2) (t2 := 256) (by omega) (by omega) (by omega)
theorem slices_acc (o : ℕ) (ho : o + 128 ≤ 512) : S256x512.Slices ![0, o] S256x128 :=
  ⟨rfl, inb2 (s0 := 256) (s1 := 128) (t0 := 256) (t1 := 512) (by omega) ho⟩
theorem slices_half (b : ℕ) (hb : b < 2) : S256x128.Slices ![128 * b, 0] S128x128 :=
  ⟨rfl, inb2 (s0 := 128) (s1 := 128) (t0 := 256) (t1 := 128) (by omega) (by omega)⟩
theorem slices_line (g : ℕ) (hg : g < 18) : S128x128.Slices ![g, 0] S1x128 :=
  ⟨rfl, inb2 (s0 := 1) (s1 := 128) (t0 := 128) (t1 := 128) (by omega) (by omega)⟩
end bounds

/-- The tile's own codes and scales of one batch element, copied out. -/
def copyStep (t : ℕ) (ht : t < 2) (cm : Memref sig .tc .vmem S256x4608 .fp8e4m3) (sm : Memref sig .tc .vmem S256x128 .f32)
    (xc : Memref sig .tc .vmem S2x256x4608 .fp8e4m3) (hxc : xc.IsWhole) (xs : Memref sig .tc .vmem S2x1x256 .f32)
    (b : ℕ) (hb : b < 2) (_ : PUnit.{1}) (κ : PUnit.{1} → P F) : P F :=
  .op (.load cm (Rect.unit (s := S256x4608) ![128 * b, 0] S128x4608.size (inb_cb b hb)).toLoadRect
    (View.loadsAt_vmem h_S128x4608)) fun (v : Vec F S128x4608 .fp8e4m3) =>
  .op (.load xc (Rect.unit (s := S2x256x4608) ![b, 128 * t, 0] S1x128x4608.size (inb_xc t b ht hb)).toLoadRect
    (View.loadsAt_vmem h_S1x128x4608)) fun _ =>
  .op (.store xc (Rect.unit (s := S2x256x4608) ![b, 128 * t, 0] S1x128x4608.size (inb_xc t b ht hb))
    (shapeCast S1x128x4608 v shapeCasts_S128x4608_S1x128x4608 : FVec F S1x128x4608 .fp8e4m3) Finset.univ
    (View.stores_vmem h_S1x128x4608 (hxc.storeExact_slice rfl _ (packed_xc t b ht hb)) (fun _ => rfl)) (.inl rfl)) fun _ =>
  .op (.load sm (Rect.unit (s := S256x128) ![128 * b, 0] S128x128.size (inb_sb b hb)).toLoadRect
    (View.loadsAt_vmem h_S128x128)) fun (w : Vec F S128x128 .f32) =>
  .op (.load xs (Rect.unit (s := S2x1x256) ![b, 0, 128 * t] S1x1x128.size (inb_xs t b ht hb)).toLoadRect
    (View.loadsAt_vmem h_S1x1x128)) fun _ =>
  .op (.store xs (Rect.unit (s := S2x1x256) ![b, 0, 128 * t] S1x1x128.size (inb_xs t b ht hb))
    (shapeCast S1x1x128 (extractStridedSlice S1x128 ![0, 0] (transpose S128x128 [1, 0] w transposes_S128x128_p1_0_S128x128)
      slices_S128x128_o0_0_S1x128) shapeCasts_S1x128_S1x1x128 : FVec F S1x1x128 .f32) Finset.univ
    (View.stores_vmem_bits_univ h_S1x1x128 rfl) (.inl rfl)) fun _ =>
  κ ⟨⟩

/-- An accumulator's columns at offset `o`, scaled by the row scales and the column scales `ws`. -/
def scaled (acc : FVec F S256x512 .f32) (s : FVec F S256x128 .f32) (o : ℕ) (ho : o + 128 ≤ 512) (ws : FVec F S1x1x128 .f32) :
    FVec F S256x128 .f32 :=
  mulf (mulf (extractStridedSlice S256x128 ![0, o] acc (slices_acc o ho)) s)
    (broadcastTo S256x128 (shapeCast S1x128 ws shapeCasts_S1x1x128_S1x128) broadcasts_S1x128_S256x128)

/-- The gated product: the tanh form of GELU of the gate, times the up projection. -/
def gated (g u : FVec F S256x128 .f32) : FVec F S256x128 .f32 :=
  mulf (mulf g (mulf (broadcast S256x128 (Scalar.ofBits .f32 0x3F000000#32))
    (addf (broadcast S256x128 (Scalar.ofBits .f32 0x3F800000#32))
      (tanh (mulf (broadcast S256x128 (Scalar.ofBits .f32 0x3F4C422A#32))
        (addf g (mulf (broadcast S256x128 (Scalar.ofBits .f32 0x3D372713#32)) (mulf (mulf g g) g)))))))) u

/-- A group's largest magnitude per row, along every lane. -/
def groupMax (h : FVec F S256x128 .f32) : FVec F S256x128 .f32 :=
  broadcastTo S256x128 (shapeCast S256x1 (shapeCast S256x1 (multiReduction .maximumf [1] S256
    (absf h) 0xFF800000#32 reduces_S256x128_S256 (.inl rfl) rfl)
    shapeCasts_S256_S256x1) shapeCasts_S256x1_S256x1) broadcasts_S256x1_S256x128

/-- A group's codes. -/
def groupCode (h : FVec F S256x128 .f32) : FVec F S256x128 .fp8e4m3 :=
  truncf .fp8e4m3 (minimumf (broadcast S256x128 (Scalar.ofBits .f32 0x43E00000#32))
    (maximumf (broadcast S256x128 (Scalar.ofBits .f32 0xC3E00000#32)) (mulf h (expoInv (groupMax h))))) bitsLt_fp8e4m3_f32

/-- One batch element's rows of a group's codes, stored. -/
def codeStep (t g : ℕ) (ht : t < 2) (hg : g < 18) (hc : Memref sig .tc .vmem S2x256x2304 .fp8e4m3) (hhc : hc.IsWhole)
    (q : FVec F S256x128 .fp8e4m3) (b : ℕ) (hb : b < 2) (_ : PUnit.{1}) (κ : PUnit.{1} → P F) : P F :=
  .op (.load hc (Rect.unit (s := S2x256x2304) ![b, 128 * t, 128 * g] S1x128x128.size (inb_hc t b g ht hb hg)).toLoadRect
    (View.loadsAt_vmem h_S1x128x128)) fun _ =>
  .op (.store hc (Rect.unit (s := S2x256x2304) ![b, 128 * t, 128 * g] S1x128x128.size (inb_hc t b g ht hb hg))
    (shapeCast S1x128x128 (extractStridedSlice S128x128 ![128 * b, 0] q (slices_half b hb)) shapeCasts_S128x128_S1x128x128)
    Finset.univ (View.stores_vmem h_S1x128x128 (hhc.storeExact_slice rfl _ (packed_hc t b g ht hb hg)) (fun _ => rfl))
    (.inl rfl)) fun _ =>
  κ ⟨⟩

/-- One group of a pair: group `2 q + h`, from columns `256 h` of the pair's accumulator. `s` holds the scales of the groups before. -/
def groupStep (t : ℕ) (ht : t < 2) (wsm : Memref sig .tc .vmem S18x2x128 .f32)
    (hc : Memref sig .tc .vmem S2x256x2304 .fp8e4m3) (hhc : hc.IsWhole) (sc : FVec F S256x128 .f32)
    (acc : FVec F S256x512 .f32) (q : ℕ) (hq : q < 9) (h : ℕ) (hh : h < 2) (s : FVec F S256x128 .f32)
    (κ : FVec F S256x128 .f32 → P F) : P F :=
  .op (.load wsm (Rect.unit (s := S18x2x128) ![2 * q + h, 0, 0] S1x1x128.size (inb_ws (2 * q + h) 0 (by omega) (by omega))).toLoadRect
    (View.loadsAt_vmem h_S1x1x128)) fun (wg : Vec F S1x1x128 .f32) =>
  .op (.load wsm (Rect.unit (s := S18x2x128) ![2 * q + h, 1, 0] S1x1x128.size (inb_ws (2 * q + h) 1 (by omega) (by omega))).toLoadRect
    (View.loadsAt_vmem h_S1x1x128)) fun (wu : Vec F S1x1x128 .f32) =>
  loop 2 (codeStep t (2 * q + h) ht (by omega) hc hhc
    (groupCode (gated (scaled acc sc (256 * h) (by omega) wg) (scaled acc sc (256 * h + 128) (by omega) wu))))
    (fun _ => κ (select (cmpi .eq (iota .tc S256x128 32 [1] iota_S256x128_d1_w32) (broadcast S256x128 (BitVec.ofNat 32 (2 * q + h))))
      (exp2 (expo (groupMax (gated (scaled acc sc (256 * h) (by omega) wg) (scaled acc sc (256 * h + 128) (by omega) wu))))) s))
    2 (le_refl _) ⟨⟩

/-- The right-hand side of a pair of groups: their four weight blocks side by side. -/
def rhs (w0 w1 w2 w3 : FVec F S1x1x4608x128 .fp8e4m3) : FVec F S4608x512 .fp8e4m3 :=
  concatenate S4608x512 1 [⟨S4608x128, shapeCast S4608x128 w0 shapeCasts_S1x1x4608x128_S4608x128⟩,
    ⟨S4608x128, shapeCast S4608x128 w1 shapeCasts_S1x1x4608x128_S4608x128⟩,
    ⟨S4608x128, shapeCast S4608x128 w2 shapeCasts_S1x1x4608x128_S4608x128⟩,
    ⟨S4608x128, shapeCast S4608x128 w3 shapeCasts_S1x1x4608x128_S4608x128⟩]
    concatenates_S4608x128_S4608x128_S4608x128_S4608x128_S4608x512_d1

/-- One pair of groups: one matrix product, then the two groups. -/
def pairStep (t : ℕ) (ht : t < 2) (wm : Memref sig .tc .vmem S18x2x4608x128 .fp8e4m3) (wsm : Memref sig .tc .vmem S18x2x128 .f32)
    (cm : Memref sig .tc .vmem S256x4608 .fp8e4m3) (hc : Memref sig .tc .vmem S2x256x2304 .fp8e4m3) (hhc : hc.IsWhole)
    (sc : FVec F S256x128 .f32) (q : ℕ) (hq : q < 9) (s : FVec F S256x128 .f32) (κ : FVec F S256x128 .f32 → P F) : P F :=
  .op (.load wm (Rect.unit (s := S18x2x4608x128) ![2 * q, 0, 0, 0] S1x1x4608x128.size (inb_w (2 * q) 0 (by omega) (by omega))).toLoadRect
    (View.loadsAt_vmem h_S1x1x4608x128)) fun (w0 : Vec F S1x1x4608x128 .fp8e4m3) =>
  .op (.load wm (Rect.unit (s := S18x2x4608x128) ![2 * q, 1, 0, 0] S1x1x4608x128.size (inb_w (2 * q) 1 (by omega) (by omega))).toLoadRect
    (View.loadsAt_vmem h_S1x1x4608x128)) fun (w1 : Vec F S1x1x4608x128 .fp8e4m3) =>
  .op (.load wm (Rect.unit (s := S18x2x4608x128) ![2 * q + 1, 0, 0, 0] S1x1x4608x128.size (inb_w (2 * q + 1) 0 (by omega) (by omega))).toLoadRect
    (View.loadsAt_vmem h_S1x1x4608x128)) fun (w2 : Vec F S1x1x4608x128 .fp8e4m3) =>
  .op (.load wm (Rect.unit (s := S18x2x4608x128) ![2 * q + 1, 1, 0, 0] S1x1x4608x128.size (inb_w (2 * q + 1) 1 (by omega) (by omega))).toLoadRect
    (View.loadsAt_vmem h_S1x1x4608x128)) fun (w3 : Vec F S1x1x4608x128 .fp8e4m3) =>
  .op (.load cm (Rect.unit (s := S256x4608) ![0, 0] S256x4608.size inb_S256x4608_S256x4608_0_0).toLoadRect
    (View.loadsAt_vmem h_S256x4608)) fun (v : Vec F S256x4608 .fp8e4m3) =>
  loop 2 (groupStep t ht wsm hc hhc sc
    (matmul dot_S256x4608_S4608x512_S256x512_1_0_0_1_n_n none v (rhs w0 w1 w2 w3) (constant S256x512 .f32 0x00000000#32)) q hq)
    κ 2 (le_refl _) s

/-- One group's scales of one batch element, stored as a line. -/
def lineStep (t b : ℕ) (ht : t < 2) (hb : b < 2) (hs : Memref sig .tc .vmem S18x2x256 .f32) (s : FVec F S256x128 .f32)
    (g : ℕ) (hg : g < 18) (_ : PUnit.{1}) (κ : PUnit.{1} → P F) : P F :=
  .op (.load hs (Rect.unit (s := S18x2x256) ![g, b, 128 * t] S1x1x128.size (inb_hs t b g ht hb hg)).toLoadRect
    (View.loadsAt_vmem h_S1x1x128)) fun _ =>
  .op (.store hs (Rect.unit (s := S18x2x256) ![g, b, 128 * t] S1x1x128.size (inb_hs t b g ht hb hg))
    (shapeCast S1x1x128 (extractStridedSlice S1x128 ![g, 0] (transpose S128x128 [1, 0]
      (extractStridedSlice S128x128 ![128 * b, 0] s (slices_half b hb)) transposes_S128x128_p1_0_S128x128) (slices_line g hg))
      shapeCasts_S1x128_S1x1x128) Finset.univ
    (View.stores_vmem_bits_univ h_S1x1x128 rfl) (.inl rfl)) fun _ =>
  κ ⟨⟩

/-- One batch element's group scales, stored line by line. -/
def linesStep (t : ℕ) (ht : t < 2) (hs : Memref sig .tc .vmem S18x2x256 .f32) (s : FVec F S256x128 .f32) (b : ℕ) (hb : b < 2)
    (_ : PUnit.{1}) (κ : PUnit.{1} → P F) : P F :=
  loop 18 (lineStep t b ht hb hs s) κ 18 (le_refl _) ⟨⟩

/-- The matmul of one tile, from its codes and scales. -/
def tile (t : ℕ) (ht : t < 2) (wm : Memref sig .tc .vmem S18x2x4608x128 .fp8e4m3) (wsm : Memref sig .tc .vmem S18x2x128 .f32)
    (hc : Memref sig .tc .vmem S2x256x2304 .fp8e4m3) (hhc : hc.IsWhole) (hs : Memref sig .tc .vmem S18x2x256 .f32)
    (xc : Memref sig .tc .vmem S2x256x4608 .fp8e4m3) (hxc : xc.IsWhole) (xs : Memref sig .tc .vmem S2x1x256 .f32)
    (cm : Memref sig .tc .vmem S256x4608 .fp8e4m3) (sm : Memref sig .tc .vmem S256x128 .f32) (κ : P F) : P F :=
  loop 2 (copyStep t ht cm sm xc hxc xs) (fun _ =>
    .op (.load sm (Rect.unit (s := S256x128) ![0, 0] S256x128.size inb_S256x128_S256x128_0_0).toLoadRect
      (View.loadsAt_vmem h_S256x128)) fun (sc : Vec F S256x128 .f32) =>
    loop 9 (pairStep t ht wm wsm cm hc hhc sc)
      (fun s => loop 2 (linesStep t ht hs s) (fun _ => κ) 2 (le_refl _) ⟨⟩)
      9 (le_refl _) (broadcast S256x128 (Scalar.ofBits .f32 0x00000000#32))) 2 (le_refl _) ⟨⟩

/-- The body past its conditional: tile `2 i + 1` quantised, tile `2 i` multiplied, the next tile quantised, tile `2 i + 1` multiplied. -/
def rest (arg2 : Memref sig .tc .vmem S2x128x4608 .bf16) (arg3 : Memref sig .tc .vmem S2x128x4608 .bf16)
    (arg4 : Memref sig .tc .vmem S18x2x4608x128 .fp8e4m3) (arg5 : Memref sig .tc .vmem S18x2x128 .f32)
    (arg6 : Memref sig .tc .vmem S2x256x2304 .fp8e4m3) (harg6 : arg6.IsWhole) (arg7 : Memref sig .tc .vmem S18x2x256 .f32)
    (arg8 : Memref sig .tc .vmem S2x256x4608 .fp8e4m3) (harg8 : arg8.IsWhole) (arg9 : Memref sig .tc .vmem S2x1x256 .f32)
    (arg10 : Memref sig .tc .vmem S256x4608 .fp8e4m3) (harg10 : arg10.IsWhole) (arg11 : Memref sig .tc .vmem S256x4608 .fp8e4m3)
    (harg11 : arg11.IsWhole) (arg12 : Memref sig .tc .vmem S256x128 .f32) (arg13 : Memref sig .tc .vmem S256x128 .f32) : P F :=
  quant arg2 arg11 harg11 arg13 <|
  tile 0 (by decide) arg4 arg5 arg6 harg6 arg7 arg8 harg8 arg9 arg10 arg12 <|
  quant arg3 arg10 harg10 arg12 <|
  tile 1 (by decide) arg4 arg5 arg6 harg6 arg7 arg8 harg8 arg9 arg11 arg13 <|
  .ret ⟨⟩

end Cert.KernelIdeal.Body

end
-- ==== Proof.Flat.lean ====
module

public import proofs.«01_k».proof.Proof.Struct

/-! # The printed body is the four loops -/

@[expose] public section

set_option maxRecDepth 16384

noncomputable section

namespace Cert.KernelIdeal.Body

open Idealize.ShloMosaic Idealize.SL.Sem

variable {F : FTy → Type} [FloatOps F]

variable (i : grid0.Coords) (arg1 : Memref sig .tc .vmem S2x128x4608 .bf16) (harg1 : arg1.IsWhole)
  (arg2 : Memref sig .tc .vmem S2x128x4608 .bf16) (harg2 : arg2.IsWhole) (arg3 : Memref sig .tc .vmem S2x128x4608 .bf16) (harg3 : arg3.IsWhole)
  (arg4 : Memref sig .tc .vmem S18x2x4608x128 .fp8e4m3) (harg4 : arg4.IsWhole) (arg5 : Memref sig .tc .vmem S18x2x128 .f32) (harg5 : arg5.IsWhole)
  (arg6 : Memref sig .tc .vmem S2x256x2304 .fp8e4m3) (harg6 : arg6.IsWhole) (arg7 : Memref sig .tc .vmem S18x2x256 .f32) (harg7 : arg7.IsWhole)
  (arg8 : Memref sig .tc .vmem S2x256x4608 .fp8e4m3) (harg8 : arg8.IsWhole) (arg9 : Memref sig .tc .vmem S2x1x256 .f32) (harg9 : arg9.IsWhole)
  (arg10 : Memref sig .tc .vmem S256x4608 .fp8e4m3) (harg10 : arg10.IsWhole) (arg11 : Memref sig .tc .vmem S256x4608 .fp8e4m3) (harg11 : arg11.IsWhole)
  (arg12 : Memref sig .tc .vmem S256x128 .f32) (harg12 : arg12.IsWhole) (arg13 : Memref sig .tc .vmem S256x128 .f32) (harg13 : arg13.IsWhole)

/-- At a grid point past the first. -/
theorem body_rest (h : ¬ (Scalar.cmpi .ne (Scalar.extui (Scalar.cmpi .eq (BitVec.ofNat 32 (i 0).val) 0#32) : BitVec 32) 0#32) = 1#1) :
    cc0_fp8_geglu (F := F) i arg1 harg1 arg2 harg2 arg3 harg3 arg4 harg4 arg5 harg5 arg6 harg6 arg7 harg7 arg8 harg8 arg9 harg9
        arg10 harg10 arg11 harg11 arg12 harg12 arg13 harg13
      = rest arg2 arg3 arg4 arg5 arg6 harg6 arg7 arg8 harg8 arg9 arg10 harg10 arg11 harg11 arg12 arg13 := by
  unfold cc0_fp8_geglu k0_part339 k0_part89
  rw [dif_neg h]
  sl_kernel_rfl

/-- At the first grid point: tile 0 is quantised first. -/
theorem body_first (h : (Scalar.cmpi .ne (Scalar.extui (Scalar.cmpi .eq (BitVec.ofNat 32 (i 0).val) 0#32) : BitVec 32) 0#32) = 1#1) :
    cc0_fp8_geglu (F := F) i arg1 harg1 arg2 harg2 arg3 harg3 arg4 harg4 arg5 harg5 arg6 harg6 arg7 harg7 arg8 harg8 arg9 harg9
        arg10 harg10 arg11 harg11 arg12 harg12 arg13 harg13
      = quant arg1 arg10 harg10 arg12
          (rest arg2 arg3 arg4 arg5 arg6 harg6 arg7 arg8 harg8 arg9 arg10 harg10 arg11 harg11 arg12 arg13) := by
  unfold cc0_fp8_geglu k0_part339 k0_part89
  rw [dif_pos h]
  sl_kernel_rfl

end Cert.KernelIdeal.Body

end
-- ==== Proof.Wp.lean ====
module

public import proofs.«01_k».proof.Proof.Struct
public import proofs.«01_k».proof.Proof.Gen.KernelIdeal.Frame.Runs
public import Idealize.ShloMosaic.Lib.Claim
public import Idealize.ShloMosaic.Lib.Pointwise

/-! # Loads, stores and loops

One rule for each operation the body is made of. A buffer being filled is held at `part`: its elements in a set agree
with a function, the others hold anything. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The weakest precondition of a program of the core, at the ideal values. -/
abbrev W (c : Dev nD) (p : P Ideal) (Q : PUnit → sProp 𝕄) : sProp 𝕄 :=
  wp frame (wpE (defs₀ (F := Ideal)) Variants.none c none) Set.univ p Q

/-- A buffer whose elements in `S` agree with `G`. -/
def part (c : Dev nD) {s : Shape} {e : EltTy} (m : Memref sig .tc .vmem s e) (S : s.Idx → Prop) (G : s.Idx → Elt Ideal e) : sProp 𝕄 :=
  iprop(∃ f, ⌜∀ y, S y → m.view.read (Elt Ideal) f y = G y⌝ ∗ m.view.loc (c : Thread nD τ) ↦[m.view.set]{fullShare} f)

variable {c : Dev nD} {s : Shape} {e : EltTy} {m : Memref sig .tc .vmem s e} {Q : PUnit → sProp 𝕄}

theorem part_of_any {G : s.Idx → Elt Ideal e} : (iprop(∃ d, owns c m fullShare d) : sProp 𝕄) ⊢ part c m (fun _ => False) G := by
  unfold owns part
  iintro ⟨%d, %f, _, H⟩
  iexists f
  isplitr
  swap; · iexact H
  ipureintro; exact fun y h => h.elim

theorem part_mono {S S' : s.Idx → Prop} {G : s.Idx → Elt Ideal e} (h : ∀ y, S' y → S y) :
    (part c m S G : sProp 𝕄) ⊢ part c m S' G := by
  unfold part
  iintro ⟨%f, %hf, H⟩
  iexists f
  isplitr
  swap; · iexact H
  ipureintro; exact fun y hy => hf y (h y hy)

theorem owns_of_part {S : s.Idx → Prop} {G : s.Idx → Elt Ideal e} (h : ∀ y, S y) :
    (part c m S G : sProp 𝕄) ⊢ owns c m fullShare G := by
  unfold owns part
  iintro ⟨%f, %hf, H⟩
  iexists f
  isplitr
  swap; · iexact H
  ipureintro; exact funext fun y => hf y (h y)

/-- A load from a buffer held whole. -/
theorem ld {off size : Fin s.rank → ℕ} {inb} {hl} {q : PosShare TreeShare} {v : s.Idx → Elt Ideal e}
    {k : ((Rect.unit (s := s) off size inb).toLoadRect.shape.Idx → Elt Ideal e) → P Ideal} :
    (owns c m q v : sProp 𝕄) ⊢ iprop((owns c m q v -∗ W c (k (fun x => v ((Rect.unit (s := s) off size inb).emb x))) Q)
      -∗ W c (.op (.load m (Rect.unit (s := s) off size inb).toLoadRect hl) k) Q) := by
  unfold owns
  iintro ⟨%f, %hf, H⟩ Hk
  iapply (wp_load_rect (defs := defs₀ (F := Ideal)) Variants.none (c : Thread nD τ) none Set.univ (m := m)
    (r := Rect.unit (s := s) off size inb) (hl := hl) (k := k) (q := q) (f := f) (S := m.view.set) (View.set_slice_subset _ _)) $$ H
  iintro H
  have e1 : (m.access (Rect.unit (s := s) off size inb)).read (Elt Ideal) f = fun x => v ((Rect.unit (s := s) off size inb).emb x) := by
    funext x; rw [← hf]; rfl
  rw [← e1]
  iapply Hk
  iexists f
  isplitr
  swap; · iexact H
  ipureintro; exact hf

/-- A load whose value is not used, from a buffer being filled. -/
theorem ld_any {off size : Fin s.rank → ℕ} {inb} {hl} {S : s.Idx → Prop} {G : s.Idx → Elt Ideal e}
    {p : P Ideal} :
    (part c m S G : sProp 𝕄) ⊢ iprop((part c m S G -∗ W c p Q)
      -∗ W c (.op (.load m (Rect.unit (s := s) off size inb).toLoadRect hl) (fun _ => p)) Q) := by
  unfold part
  iintro ⟨%f, %hf, H⟩ Hk
  iapply (wp_load_rect (defs := defs₀ (F := Ideal)) Variants.none (c : Thread nD τ) none Set.univ (m := m)
    (r := Rect.unit (s := s) off size inb) (hl := hl) (k := fun _ => p) (q := fullShare) (f := f) (S := m.view.set) (View.set_slice_subset _ _)) $$ H
  iintro H
  iapply Hk
  iexists f
  isplitr
  swap; · iexact H
  ipureintro; exact hf

/-- A store of the function's own values. -/
theorem st {off size : Fin s.rank → ℕ} {inb} {S : s.Idx → Prop} {G : s.Idx → Elt Ideal e}
    (S' : s.Idx → Prop) {w : (Rect.unit (s := s) off size inb).shape.Idx → Elt Ideal e} {hx hm}
    {κ : P Ideal} (hS : ∀ y, S' y → (∀ a, off a ≤ (y a).val ∧ (y a).val < off a + size a) ∨ S y)
    (hS₂ : ∀ y, S y → S' y)
    (hw : ∀ x, w x = G ((Rect.unit (s := s) off size inb).emb x)) :
    (part c m S G : sProp 𝕄) ⊢ iprop((part c m S' G -∗ W c κ Q)
      -∗ W c (.op (.store m (Rect.unit (s := s) off size inb) w Finset.univ hx hm) (fun _ => κ)) Q) := by
  unfold part
  iintro ⟨%f, %hf, H⟩ Hk
  iapply (wp_store (defs := defs₀ (F := Ideal)) Variants.none (c : Thread nD τ) none Set.univ (Q := Q) (m := m) (w := w) (hx := hx) (hm := hm)
    (r := Rect.unit (s := s) off size inb) (k := fun _ => κ) (Mk := Finset.univ) (f := f) (S := m.view.set) (View.set_slice_subset _ _)) $$ H
  iintro H
  iapply Hk
  iexists _
  isplitr
  swap; · iexact H
  ipureintro
  intro y hy
  by_cases hr : y ∈ Finset.univ.map (Rect.unit (s := s) off size inb).emb
  · obtain ⟨x, -, rfl⟩ := Finset.mem_map.mp hr
    exact (View.read_slice_write_emb _ _ _ (Finset.mem_univ _)).trans (hw x)
  · refine (View.read_slice_write_of_not_mem _ _ _ _ hr).trans (hf y ?_)
    rcases hS y hy with h | h
    · exact absurd ((Rect.map_emb_univ (Rect.unit (s := s) off size inb)).symm ▸ Rect.mem_set_unit.mpr h) hr
    · exact h

/-- A counted loop, by an invariant over the counter and the value it hands on. -/
theorem wp_loop {A : Type} (N : ℕ) (step : (j : ℕ) → j < N → A → (A → P Ideal) → P Ideal) (I : ℕ → A → sProp 𝕄) (κ : A → P Ideal)
    (hstep : ∀ j (hj : j < N) a (κ' : A → P Ideal), I j a ⊢ iprop((∀ a', I (j + 1) a' -∗ W c (κ' a') Q) -∗ W c (step j hj a κ') Q)) :
    ∀ n (h : n ≤ N) a, I (N - n) a ⊢ iprop((∀ a', I N a' -∗ W c (κ a') Q) -∗ W c (loop N step κ n h a) Q)
  | 0, h, a => by
    iintro H Hk
    ihave Hk := Hk $$ %a
    iapply Hk
    iexact H
  | n + 1, h, a => by
    iintro H Hk
    iapply (hstep (N - (n + 1)) (by omega) a (fun a' => loop N step κ n (by omega) a')) $$ H
    iintro %a' H
    have e1 : N - (n + 1) + 1 = N - n := by omega
    rw [e1]
    iapply (wp_loop N step I κ hstep n (Nat.le_of_succ_le h) a') $$ H
    iexact Hk

end Cert.KernelIdeal.Body

end
-- ==== Proof.Spec.lean ====
module

public import proofs.«01_k».proof.Proof.Wp

/-! # What the kernel computes, element by element

The quantiser's codes and scales, and the gated product of a group, as functions of the arrays' elements. -/

@[expose] public section

set_option maxRecDepth 16384

noncomputable section

namespace Cert.KernelIdeal.Body

open Idealize.ShloMosaic Idealize.ShloMosaic.TcCoe Idealize.ShloMosaic.Tactic
open Idealize.SL.Sem

/-- The scale's exponent from a largest magnitude. -/
def ex (a : EReal) : EReal := expo (F := Ideal) (s := S32) (fun _ => a) (ix1 (0 : Fin 32))

/-- Two to a power. -/
def pow2 (a : EReal) : EReal := exp2 (F := Ideal) (φ := .f32) (s := S32) (fun _ => a) (ix1 (0 : Fin 32))

/-- Two to the negated exponent. -/
def exInv (a : EReal) : EReal := expoInv (F := Ideal) (s := S32) (fun _ => a) (ix1 (0 : Fin 32))

/-- Clipping to the largest code. -/
def clip (v : EReal) : EReal := min (Ideal.ofBits .f32 0x43E00000#32) (max (Ideal.ofBits .f32 0xC3E00000#32) v)

/-- A magnitude. -/
def mag (v : EReal) : EReal := max v (-v)

theorem expo_apply {s : Shape} (a : FVec Ideal s .f32) (i : s.Idx) : expo a i = ex (a i) := rfl
theorem expoInv_apply {s : Shape} (a : FVec Ideal s .f32) (i : s.Idx) : expoInv a i = exInv (a i) := rfl
theorem pow2_apply {s : Shape} (a : FVec Ideal s .f32) (i : s.Idx) : exp2 a i = pow2 (a i) := rfl

theorem ofBits_max : Ideal.ofBits .bf16 0x43E0#16 = Ideal.ofBits .f32 0x43E00000#32 := by
  simp [Ideal.ofBits, Ideal.ieee]
  norm_num [← EReal.coe_mul]
theorem ofBits_min : Ideal.ofBits .bf16 0xC3E0#16 = Ideal.ofBits .f32 0xC3E00000#32 := by
  simp [Ideal.ofBits, Ideal.ieee]
  norm_num [← EReal.coe_mul]
theorem ofBits_bot : Ideal.ofBits .f32 0xFF800000#32 = ⊥ := by
  simp [Ideal.ofBits, Ideal.ieee]

/-- A fold of `max` from the least element is the supremum. -/
theorem fold_max {n : ℕ} (f : Fin n → EReal) : Finset.univ.fold max (⊥ : EReal) f = ⨆ k, f k := by
  rw [← Finset.sup_univ_eq_iSup]; rfl

theorem chunkMax_le (x : FVec Ideal S32x4608 .bf16) (r : Fin 32) (l : Fin 128) :
    ∀ c (h : c < 36), chunkMax x c h (ix2 r l) ≤ ⨆ k : Fin 4608, mag (x (ix2 r k))
  | 0, h => by
    rw [chunkMax]
    pointwise
    exact le_iSup (fun k : Fin 4608 => mag (x (ix2 r k))) _
  | c + 1, h => by
    rw [chunkMax]
    pointwise
    exact max_le (chunkMax_le x r l c _) (le_iSup (fun k : Fin 4608 => mag (x (ix2 r k))) _)

theorem le_chunkMax (x : FVec Ideal S32x4608 .bf16) (r : Fin 32) (l : Fin 128) :
    ∀ c (h : c < 36) (d : ℕ) (hd : d ≤ c), mag (x (ix2 r (⟨128 * d + l.val, by omega⟩ : Fin 4608))) ≤ chunkMax x c h (ix2 r l)
  | 0, h, d, hd => by
    obtain rfl : d = 0 := by omega
    rw [chunkMax]
    pointwise
    exact le_rfl
  | c + 1, h, d, hd => by
    rw [chunkMax]
    pointwise
    rcases Nat.lt_or_ge d (c + 1) with h1 | h1
    · exact le_max_of_le_left (le_chunkMax x r l c _ d (by omega))
    · obtain rfl : d = c + 1 := by omega
      exact le_max_of_le_right le_rfl

theorem rowMax_apply (x : FVec Ideal S32x4608 .bf16) (r : Fin 32) (l : Fin 128) :
    rowMax x (ix2 r l) = ⨆ k : Fin 4608, mag (x (ix2 r k)) := by
  pointwise [rowMax]
  rw [ofBits_bot, fold_max]
  refine le_antisymm (iSup_le fun l' => chunkMax_le x r l' 35 _) (iSup_le fun k => ?_)
  have h := le_chunkMax x r (⟨k.val % 128, Nat.mod_lt _ (by decide)⟩ : Fin 128) 35 (by decide) (k.val / 128) (by omega)
  have e1 : (⟨128 * (k.val / 128) + k.val % 128, by omega⟩ : Fin 4608) = k := Fin.ext (Nat.div_add_mod _ _)
  rw [e1] at h
  exact h.trans (le_iSup (fun l' : Fin 128 => chunkMax x 35 (by decide) (ix2 r l')) _)

theorem chunkCode_apply (x : FVec Ideal S32x4608 .bf16) (v : FVec Ideal S32x128 .bf16) (c : ℕ) (hc : c < 36) (r : Fin 32) (l : Fin 128) :
    chunkCode x v c hc (ix2 r l) = clip (x (ix2 r (⟨128 * c + l.val, by omega⟩ : Fin 4608)) * v (ix2 r l)) := by
  pointwise [chunkCode]
  rw [ofBits_max, ofBits_min]
  rfl

/-- A row's largest magnitude. -/
def amax (x : Vec Ideal S2x128x4608 .bf16) (b : Fin 2) (s : Fin 128) : EReal := ⨆ k : Fin 4608, mag (x (ix3 b s k))

/-- An element's code. -/
def code (x : Vec Ideal S2x128x4608 .bf16) (b : Fin 2) (s : Fin 128) (k : Fin 4608) : EReal :=
  clip ((show EReal from x (ix3 b s k)) * exInv (amax x b s))

/-- A row of the flattened tile: its batch element. -/
def rb (r : Fin 256) : Fin 2 := ⟨r.val / 128, by omega⟩
/-- A row of the flattened tile: its position in the sequence. -/
def rs (r : Fin 256) : Fin 128 := ⟨r.val % 128, by omega⟩

/-- A tile's codes. -/
def Codes (x : Vec Ideal S2x128x4608 .bf16) : Vec Ideal S256x4608 .fp8e4m3 :=
  fun y => code x (rb (y 0)) (rs (y 0)) (y 1)

/-- A tile's scales, along every lane. -/
def Scales (x : Vec Ideal S2x128x4608 .bf16) : Vec Ideal S256x128 .f32 :=
  fun y => pow2 (ex (amax x (rb (y 0)) (rs (y 0))))

end Cert.KernelIdeal.Body

end
-- ==== Proof.Quant.lean ====
module

public import proofs.«01_k».proof.Proof.Spec

/-! # The quantiser

`quant` leaves a tile's codes and scales in its two buffers. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Shapes1.Facts₀

local notation "𝕄" => MT nD τ sig Unit (Elt Ideal) ℕ (UR sig nD τ) ℕ

/-- A row chunk of the tile: rows `32 (j % 4) …` of batch element `j / 4`. -/
def chunk (x : Vec Ideal S2x128x4608 .bf16) (j : ℕ) (hj : j < 8) : FVec Ideal S32x4608 .bf16 :=
  shapeCast S32x4608 (fun i : S1x32x4608.Idx => x ((Rect.unit (s := S2x128x4608) ![j / 4, 32 * (j % 4), 0] S1x32x4608.size (inb_x j hj)).emb i))
    shapeCasts_S1x32x4608_S32x4608

theorem chunk_apply (x : Vec Ideal S2x128x4608 .bf16) (j : ℕ) (hj : j < 8) (r : Fin 32) (k : Fin 4608) :
    chunk x j hj (ix2 r k) = x (ix3 (rb ⟨32 * j + r.val, by omega⟩) (rs ⟨32 * j + r.val, by omega⟩) k) := by
  pointwise [chunk]
  refine congrArg x ?_
  funext a
  apply Fin.ext
  rw [Rect.emb_apply]
  fin_cases a <;> simp [rb, rs, Rect.unit] <;> omega

theorem amax_chunk (x : Vec Ideal S2x128x4608 .bf16) (j : ℕ) (hj : j < 8) (r : Fin 32) (l : Fin 128) :
    rowMax (chunk x j hj) (ix2 r l) = amax x (rb ⟨32 * j + r.val, by omega⟩) (rs ⟨32 * j + r.val, by omega⟩) := by
  rw [rowMax_apply, amax]
  exact iSup_congr fun k => congrArg mag (chunk_apply x j hj r k)

/-- What a row chunk stores of scales. -/
theorem scale_piece (x : Vec Ideal S2x128x4608 .bf16) (j : ℕ) (hj : j < 8) (z : S32x128.Idx) :
    shapeCast S32x128 (exp2 (expo (rowMax (chunk x j hj)))) shapeCasts_S32x128_S32x128 z
      = Scales x ((Rect.unit (s := S256x128) ![32 * j, 0] S32x128.size (inb_row j hj)).emb z) := by
  idx_vars z
  pointwise
  show pow2 (ex (rowMax (chunk x j hj) (ix2 z0 z1))) = _
  rw [amax_chunk]
  unfold Scales
  have e0 : (Rect.unit (s := S256x128) ![32 * j, 0] S32x128.size (inb_row j hj)).emb (ix2 z0 z1) 0 = (⟨32 * j + z0.val, by omega⟩ : Fin 256) := by
    apply Fin.ext
    rw [Rect.emb_apply]
    simp [Rect.unit]
  rw [e0]

/-- What a lane chunk stores of codes. -/
theorem code_piece (x : Vec Ideal S2x128x4608 .bf16) (j : ℕ) (hj : j < 8) (k : ℕ) (h : k < 36) (z : S32x128.Idx) :
    chunkCode (chunk x j hj) (truncf .bf16 (expoInv (rowMax (chunk x j hj))) bitsLt_bf16_f32) k h z
      = Codes x ((Rect.unit (s := S256x4608) ![32 * j, 128 * k] S32x128.size (inb_code j k hj h)).emb z) := by
  idx_vars z
  rw [chunkCode_apply, chunk_apply]
  have e2 : truncf (F := Ideal) .bf16 (expoInv (rowMax (chunk x j hj))) bitsLt_bf16_f32 (ix2 z0 z1)
      = exInv (amax x (rb ⟨32 * j + z0.val, by omega⟩) (rs ⟨32 * j + z0.val, by omega⟩)) := by
    rw [← amax_chunk x j hj z0 z1]; rfl
  rw [e2]
  unfold Codes
  have e0 : (Rect.unit (s := S256x4608) ![32 * j, 128 * k] S32x128.size (inb_code j k hj h)).emb (ix2 z0 z1) 0 = (⟨32 * j + z0.val, by omega⟩ : Fin 256) := by
    apply Fin.ext
    rw [Rect.emb_apply]
    simp [Rect.unit]
  have e1 : (Rect.unit (s := S256x4608) ![32 * j, 128 * k] S32x128.size (inb_code j k hj h)).emb (ix2 z0 z1) 1 = (⟨128 * k + z1.val, by omega⟩ : Fin 4608) := by
    apply Fin.ext
    rw [Rect.emb_apply]
    simp [Rect.unit]
  rw [e0, e1]
  rfl

variable {c : Dev nD} {Q : PUnit → sProp 𝕄}

theorem lane_wp (cm : Memref sig .tc .vmem S256x4608 .fp8e4m3) (hc : cm.IsWhole) (x : Vec Ideal S2x128x4608 .bf16) (j : ℕ) (hj : j < 8)
    (k : ℕ) (hk : k < 36) (u : PUnit.{1}) (κ : PUnit.{1} → P Ideal) :
    (part c cm (fun y => (y 0).val < 32 * j ∨ (y 0).val < 32 * (j + 1) ∧ (y 1).val < 128 * k) (Codes x) : sProp 𝕄)
      ⊢ iprop((∀ u', part c cm (fun y => (y 0).val < 32 * j ∨ (y 0).val < 32 * (j + 1) ∧ (y 1).val < 128 * (k + 1)) (Codes x) -∗ W c (κ u') Q)
        -∗ W c (laneStep cm hc (chunk x j hj) (truncf .bf16 (expoInv (rowMax (chunk x j hj))) bitsLt_bf16_f32) j hj k hk u κ) Q) := by
  unfold laneStep
  iintro H Hk
  iapply ld_any $$ H
  iintro H
  iapply (st (fun y => (y 0).val < 32 * j ∨ (y 0).val < 32 * (j + 1) ∧ (y 1).val < 128 * (k + 1)) ?_ ?_ (code_piece x j hj k hk)) $$ H
  · intro y hy
    by_cases h : (y 0).val < 32 * j ∨ (y 0).val < 32 * (j + 1) ∧ (y 1).val < 128 * k
    · exact .inr h
    · refine .inl fun a => ?_
      fin_cases a
      · show 32 * j ≤ (y 0).val ∧ (y 0).val < 32 * j + 32; omega
      · show 128 * k ≤ (y 1).val ∧ (y 1).val < 128 * k + 128; omega
  · intro y hy; omega
  · iapply Hk

theorem row_wp (xm : Memref sig .tc .vmem S2x128x4608 .bf16) (cm : Memref sig .tc .vmem S256x4608 .fp8e4m3) (hc : cm.IsWhole)
    (sm : Memref sig .tc .vmem S256x128 .f32) (q : PosShare TreeShare) (x : Vec Ideal S2x128x4608 .bf16) (j : ℕ) (hj : j < 8) (u : PUnit.{1}) (κ : PUnit.{1} → P Ideal) :
    (iprop(owns c xm q x ∗ part c cm (fun y => (y 0).val < 32 * j) (Codes x) ∗ part c sm (fun y => (y 0).val < 32 * j) (Scales x)) : sProp 𝕄)
      ⊢ iprop((∀ u', iprop(owns c xm q x ∗ part c cm (fun y => (y 0).val < 32 * (j + 1)) (Codes x) ∗ part c sm (fun y => (y 0).val < 32 * (j + 1)) (Scales x)) -∗ W c (κ u') Q)
        -∗ W c (rowStep xm cm hc sm j hj u κ) Q) := by
  unfold rowStep
  iintro ⟨Hx, Hc, Hs⟩ Hk
  iapply ld $$ Hx
  iintro Hx
  iapply ld_any $$ Hs
  iintro Hs
  iapply (st (fun y => (y 0).val < 32 * (j + 1)) ?_ ?_ (scale_piece x j hj)) $$ Hs
  · intro y hy
    by_cases h : (y 0).val < 32 * j
    · exact .inr h
    · refine .inl fun a => ?_
      fin_cases a
      · show 32 * j ≤ (y 0).val ∧ (y 0).val < 32 * j + 32; omega
      · show 0 ≤ (y 1).val ∧ (y 1).val < 0 + 128
        have := (y 1).isLt
        exact ⟨Nat.zero_le _, by simpa using this⟩
  · intro y hy; omega
  iintro Hs
  ihave Hc := (part_mono (S' := fun y : S256x4608.Idx => (y 0).val < 32 * j ∨ (y 0).val < 32 * (j + 1) ∧ (y 1).val < 128 * (36 - 36)) (by intro y hy; omega)) $$ Hc
  iapply (wp_loop 36 _ (fun k _ => part c cm (fun y => (y 0).val < 32 * j ∨ (y 0).val < 32 * (j + 1) ∧ (y 1).val < 128 * k) (Codes x)) κ
    (fun k hk u κ' => lane_wp cm hc x j hj k hk u κ') 36 (le_refl _) ⟨⟩) $$ Hc
  iintro %u' Hc
  iapply Hk
  isplitl [Hx]; · iexact Hx
  isplitl [Hc]
  · iapply (part_mono (c := c) (m := cm) (S := fun y => (y 0).val < 32 * j ∨ (y 0).val < 32 * (j + 1) ∧ (y 1).val < 128 * 36)
      (S' := fun y => (y 0).val < 32 * (j + 1)) (by
        intro y hy
        have : (y 1).val < 4608 := (y 1).isLt
        omega)) $$ Hc
  iexact Hs

/-- The quantiser leaves the tile's codes and scales. -/
theorem quant_wp (xm : Memref sig .tc .vmem S2x128x4608 .bf16) (cm : Memref sig .tc .vmem S256x4608 .fp8e4m3) (hc : cm.IsWhole)
    (sm : Memref sig .tc .vmem S256x128 .f32) (q : PosShare TreeShare) (x : Vec Ideal S2x128x4608 .bf16) (κ : P Ideal) :
    (iprop(owns c xm q x ∗ (∃ d, owns c cm fullShare d) ∗ (∃ d, owns c sm fullShare d)) : sProp 𝕄)
      ⊢ iprop((iprop(owns c xm q x ∗ owns c cm fullShare (Codes x) ∗ owns c sm fullShare (Scales x)) -∗ W c κ Q)
        -∗ W c (quant xm cm hc sm κ) Q) := by
  unfold quant
  iintro ⟨Hx, Hc, Hs⟩ Hk
  ihave Hc := (part_of_any (G := Codes x)) $$ Hc
  ihave Hc := (part_mono (S' := fun y : S256x4608.Idx => (y 0).val < 32 * (8 - 8)) (by intro y hy; omega)) $$ Hc
  ihave Hs := (part_of_any (G := Scales x)) $$ Hs
  ihave Hs := (part_mono (S' := fun y : S256x128.Idx => (y 0).val < 32 * (8 - 8)) (by intro y hy; omega)) $$ Hs
  iapply (wp_loop 8 _ (fun j _ => iprop(owns c xm q x ∗ part c cm (fun y => (y 0).val < 32 * j) (Codes x) ∗ part c sm (fun y => (y 0).val < 32 * j) (Scales x)))
    (fun _ => κ) (fun j hj u κ' => row_wp xm cm hc sm q x j hj u κ') 8 (le_refl _) ⟨⟩) $$ [Hx Hc Hs]
  · isplitl [Hx]; · iexact Hx
    isplitl [Hc]; · iexact Hc
    iexact Hs
  iintro %u' ⟨Hx, Hc, Hs⟩
  iapply Hk
  isplitl [Hx]; · iexact Hx
  isplitl [Hc]
  · iapply (owns_of_part (c := c) (m := cm) (S := fun y => (y 0).val < 32 * 8) (fun y => (y 0).isLt)) $$ Hc
  iapply (owns_of_part (c := c) (m := sm) (S := fun y => (y 0).val < 32 * 8) (fun y => (y 0).isLt)) $$ Hs

end Cert.KernelIdeal.Body

end
-- ==== Proof.TileSpec.lean ====
module

public import proofs.«01_k».proof.Proof.Spec

/-! # A tile's gated product, element by element -/

@[expose] public section

set_option maxRecDepth 16384

noncomputable section

namespace Cert.KernelIdeal.Body

open Idealize.ShloMosaic Idealize.ShloMosaic.TcCoe Idealize.ShloMosaic.Tactic
open Idealize.SL.Sem
open Cert.KernelIdeal.Shapes1.Facts₀

/-- The gated product of two numbers. -/
def gate (g u : EReal) : EReal := gated (F := Ideal) (fun _ => g) (fun _ => u) (ix2 (0 : Fin 256) (0 : Fin 128))

theorem gated_apply (g u : FVec Ideal S256x128 .f32) (i : S256x128.Idx) : gated g u i = gate (g i) (u i) := rfl

theorem scaled_apply (acc : FVec Ideal S256x512 .f32) (s : FVec Ideal S256x128 .f32) (o : ℕ) (ho : o + 128 ≤ 512) (ws : FVec Ideal S1x1x128 .f32)
    (r : Fin 256) (l : Fin 128) :
    scaled acc s o ho ws (ix2 r l)
      = (show EReal from acc (ix2 r (⟨o + l.val, by omega⟩ : Fin 512))) * s (ix2 r l) * ws (ix3 (0 : Fin 1) (0 : Fin 1) l) := by
  pointwise [scaled]

theorem groupMax_apply (h : FVec Ideal S256x128 .f32) (r : Fin 256) (l : Fin 128) :
    groupMax h (ix2 r l) = ⨆ k : Fin 128, mag (h (ix2 r k)) := by
  pointwise [groupMax]
  rw [ofBits_bot, fold_max]
  rfl

theorem groupCode_apply (h : FVec Ideal S256x128 .f32) (r : Fin 256) (l : Fin 128) :
    groupCode h (ix2 r l) = clip (h (ix2 r l) * exInv (⨆ k : Fin 128, mag (h (ix2 r k)))) := by
  rw [← groupMax_apply h r l]
  rfl

section rhs
variable (w0 w1 w2 w3 : FVec Ideal S1x1x4608x128 .fp8e4m3) (k : Fin 4608) (l : Fin 128)

theorem rhs_0 (h : 0 + l.val < 512) : rhs w0 w1 w2 w3 (ix2 k (⟨0 + l.val, h⟩ : Fin 512)) = w0 (ix4 (0 : Fin 1) (0 : Fin 1) k l) := by
  pointwise [rhs]
theorem rhs_1 (h : 128 + l.val < 512) : rhs w0 w1 w2 w3 (ix2 k (⟨128 + l.val, h⟩ : Fin 512)) = w1 (ix4 (0 : Fin 1) (0 : Fin 1) k l) := by
  pointwise [rhs]
theorem rhs_2 (h : 256 + l.val < 512) : rhs w0 w1 w2 w3 (ix2 k (⟨256 + l.val, h⟩ : Fin 512)) = w2 (ix4 (0 : Fin 1) (0 : Fin 1) k l) := by
  pointwise [rhs]
  have h0 : ¬ 256 + l.val < 128 := by omega
  have h1 : ¬ 256 + l.val - 128 < 128 := by omega
  have h2 : 256 + l.val - 128 - 128 < 128 := by omega
  rw [dif_neg h0, dif_neg h1, dif_pos h2]
  have e : (⟨256 + l.val - 128 - 128, h2⟩ : Fin 128) = l := Fin.ext (show 256 + l.val - 128 - 128 = l.val by omega)
  rw [e]
theorem rhs_3 (h : 384 + l.val < 512) : rhs w0 w1 w2 w3 (ix2 k (⟨384 + l.val, h⟩ : Fin 512)) = w3 (ix4 (0 : Fin 1) (0 : Fin 1) k l) := by
  pointwise [rhs]
  have h0 : ¬ 384 + l.val < 128 := by omega
  have h1 : ¬ 384 + l.val - 128 < 128 := by omega
  have h2 : ¬ 384 + l.val - 128 - 128 < 128 := by omega
  have h3 : 384 + l.val - 128 - 128 - 128 < 128 := by omega
  rw [dif_neg h0, dif_neg h1, dif_neg h2]
  have e : (⟨384 + l.val - 128 - 128 - 128, h3⟩ : Fin 128) = l := Fin.ext (show 384 + l.val - 128 - 128 - 128 = l.val by omega)
  rw [e]
end rhs

variable (cv : Vec Ideal S256x4608 .fp8e4m3) (sv : Vec Ideal S256x128 .f32) (w : Vec Ideal S18x2x4608x128 .fp8e4m3) (ws : Vec Ideal S18x2x128 .f32)

/-- One projection (`h = 0` the gate, `h = 1` the up) of a group's column, scaled. -/
def proj (g : Fin 18) (h : Fin 2) (r : Fin 256) (l : Fin 128) : EReal :=
  (∑ k : Fin 4608, (show EReal from cv (ix2 r k)) * w (ix4 g h k l)) * sv (ix2 r l) * ws (ix3 g h l)

/-- The gated product. -/
def hid (g : Fin 18) (r : Fin 256) (l : Fin 128) : EReal := gate (proj cv sv w ws g 0 r l) (proj cv sv w ws g 1 r l)

/-- A group's largest magnitude in a row. -/
def hmax (g : Fin 18) (r : Fin 256) : EReal := ⨆ l : Fin 128, mag (hid cv sv w ws g r l)

/-- A group's scale in a row. -/
def hscale (g : Fin 18) (r : Fin 256) : EReal := pow2 (ex (hmax cv sv w ws g r))

/-- A group's code. -/
def hcode (g : Fin 18) (r : Fin 256) (l : Fin 128) : EReal := clip (hid cv sv w ws g r l * exInv (hmax cv sv w ws g r))

/-- The tile's row of a batch element and a position. -/
def row (b : Fin 2) (p : Fin 256) : Fin 256 := ⟨128 * b.val + p.val % 128, by omega⟩

/-- The tile's codes of the gated product, at a block's positions. -/
def HC : Vec Ideal S2x256x2304 .fp8e4m3 := fun y =>
  hcode cv sv w ws ⟨(show Fin 2304 from y 2).val / 128, by omega⟩ (row (y 0) (y 1)) ⟨(show Fin 2304 from y 2).val % 128, by omega⟩
/-- Its scales. -/
def HS : Vec Ideal S18x2x256 .f32 := fun y => hscale cv sv w ws (y 0) (row (y 1) (y 2))
/-- The tile's own codes. -/
def XC : Vec Ideal S2x256x4608 .fp8e4m3 := fun y => cv (ix2 (row (y 0) (y 1)) (show Fin 4608 from y 2))
/-- Its own scales. -/
def XS : Vec Ideal S2x1x256 .f32 := fun y => sv (ix2 (row (y 0) (y 2)) (0 : Fin 128))

/-! ## The loaded blocks -/

/-- A weight block, as loaded. -/
def wblk (g h : ℕ) (hg : g < 18) (hh : h < 2) : FVec Ideal S1x1x4608x128 .fp8e4m3 := fun x =>
  w ((Rect.unit (s := S18x2x4608x128) ![g, h, 0, 0] S1x1x4608x128.size (inb_w g h hg hh)).emb x)
/-- A column scale block, as loaded. -/
def wsblk (g h : ℕ) (hg : g < 18) (hh : h < 2) : FVec Ideal S1x1x128 .f32 := fun x =>
  ws ((Rect.unit (s := S18x2x128) ![g, h, 0] S1x1x128.size (inb_ws g h hg hh)).emb x)
/-- The tile's codes, as loaded. -/
def cvblk : FVec Ideal S256x4608 .fp8e4m3 := fun x =>
  cv ((Rect.unit (s := S256x4608) ![0, 0] S256x4608.size inb_S256x4608_S256x4608_0_0).emb x)
/-- The tile's scales, as loaded. -/
def svblk : FVec Ideal S256x128 .f32 := fun x =>
  sv ((Rect.unit (s := S256x128) ![0, 0] S256x128.size inb_S256x128_S256x128_0_0).emb x)

theorem wblk_apply (g h : ℕ) (hg : g < 18) (hh : h < 2) (k : Fin 4608) (l : Fin 128) :
    wblk w g h hg hh (ix4 (0 : Fin 1) (0 : Fin 1) k l) = w (ix4 (⟨g, hg⟩ : Fin 18) (⟨h, hh⟩ : Fin 2) k l) := by
  refine congrArg w ?_
  funext a
  apply Fin.ext
  rw [Rect.emb_apply]
  fin_cases a <;> simp [Rect.unit]
theorem wsblk_apply (g h : ℕ) (hg : g < 18) (hh : h < 2) (l : Fin 128) :
    wsblk ws g h hg hh (ix3 (0 : Fin 1) (0 : Fin 1) l) = ws (ix3 (⟨g, hg⟩ : Fin 18) (⟨h, hh⟩ : Fin 2) l) := by
  refine congrArg ws ?_
  funext a
  apply Fin.ext
  rw [Rect.emb_apply]
  fin_cases a <;> simp [Rect.unit]
theorem cvblk_apply (r : Fin 256) (k : Fin 4608) : cvblk cv (ix2 r k) = cv (ix2 r k) := by
  refine congrArg cv ?_
  funext a
  apply Fin.ext
  rw [Rect.emb_apply]
  fin_cases a <;> simp [Rect.unit]
theorem svblk_apply (r : Fin 256) (l : Fin 128) : svblk sv (ix2 r l) = sv (ix2 r l) := by
  refine congrArg sv ?_
  funext a
  apply Fin.ext
  rw [Rect.emb_apply]
  fin_cases a <;> simp [Rect.unit]

/-- A pair's accumulator. -/
def accOf (q : ℕ) (hq : q < 9) : FVec Ideal S256x512 .f32 :=
  matmul dot_S256x4608_S4608x512_S256x512_1_0_0_1_n_n none (cvblk cv)
    (rhs (wblk w (2 * q) 0 (by omega) (by omega)) (wblk w (2 * q) 1 (by omega) (by omega))
      (wblk w (2 * q + 1) 0 (by omega) (by omega)) (wblk w (2 * q + 1) 1 (by omega) (by omega)))
    (constant S256x512 .f32 0x00000000#32)

theorem acc_apply (q : ℕ) (hq : q < 9) (h : ℕ) (hh : h < 2) (b : Fin 2) (r : Fin 256) (l : Fin 128) (o : ℕ) (ho : o = 256 * h + 128 * b.val)
    (hl : o + l.val < 512) :
    accOf cv w q hq (ix2 r (⟨o + l.val, hl⟩ : Fin 512))
      = ∑ k : Fin 4608, (show EReal from cv (ix2 r k)) * w (ix4 (⟨2 * q + h, by omega⟩ : Fin 18) b k l) := by
  pointwise [accOf]
  refine Finset.sum_congr rfl fun k _ => ?_
  refine Ideal.mul_congr (cvblk_apply cv r k) ?_
  obtain ⟨b, hb⟩ := b
  obtain rfl | rfl : h = 0 ∨ h = 1 := by omega
  · obtain rfl | rfl : b = 0 ∨ b = 1 := by omega
    · obtain rfl : o = 0 := by simpa using ho
      exact (rhs_0 _ _ _ _ k l _).trans (wblk_apply w _ _ _ _ k l)
    · obtain rfl : o = 128 := by simpa using ho
      exact (rhs_1 _ _ _ _ k l _).trans (wblk_apply w _ _ _ _ k l)
  · obtain rfl | rfl : b = 0 ∨ b = 1 := by omega
    · obtain rfl : o = 256 := by simpa using ho
      exact (rhs_2 _ _ _ _ k l _).trans (wblk_apply w _ _ _ _ k l)
    · obtain rfl : o = 384 := by simpa using ho
      exact (rhs_3 _ _ _ _ k l _).trans (wblk_apply w _ _ _ _ k l)

/-- A group's gated product, as computed. -/
def hidOf (q : ℕ) (hq : q < 9) (h : ℕ) (hh : h < 2) : FVec Ideal S256x128 .f32 :=
  gated (scaled (accOf cv w q hq) (svblk sv) (256 * h) (by omega) (wsblk ws (2 * q + h) 0 (by omega) (by omega)))
    (scaled (accOf cv w q hq) (svblk sv) (256 * h + 128) (by omega) (wsblk ws (2 * q + h) 1 (by omega) (by omega)))

theorem hidOf_apply (q : ℕ) (hq : q < 9) (h : ℕ) (hh : h < 2) (r : Fin 256) (l : Fin 128) :
    hidOf cv sv w ws q hq h hh (ix2 r l) = hid cv sv w ws ⟨2 * q + h, by omega⟩ r l := by
  unfold hidOf hid
  rw [gated_apply, scaled_apply, scaled_apply, acc_apply cv w q hq h hh 0 r l (256 * h) (by simp), acc_apply cv w q hq h hh 1 r l (256 * h + 128) (by simp),
    svblk_apply, wsblk_apply, wsblk_apply]
  rfl

theorem groupMax_hidOf (q : ℕ) (hq : q < 9) (h : ℕ) (hh : h < 2) (r : Fin 256) (l : Fin 128) :
    groupMax (hidOf cv sv w ws q hq h hh) (ix2 r l) = hmax cv sv w ws ⟨2 * q + h, by omega⟩ r := by
  rw [groupMax_apply, hmax]
  exact iSup_congr fun k => congrArg mag (hidOf_apply cv sv w ws q hq h hh r k)

theorem groupCode_hidOf (q : ℕ) (hq : q < 9) (h : ℕ) (hh : h < 2) (r : Fin 256) (l : Fin 128) :
    groupCode (hidOf cv sv w ws q hq h hh) (ix2 r l) = hcode cv sv w ws ⟨2 * q + h, by omega⟩ r l := by
  rw [groupCode_apply, hcode, ← groupMax_hidOf cv sv w ws q hq h hh r l, groupMax_apply, hidOf_apply]

/-- The scales of the groups below `n` are in their lanes. -/
def Filled (n : ℕ) (s : FVec Ideal S256x128 .f32) : Prop :=
  ∀ (r : Fin 256) (l : Fin 128) (h : l.val < 18), l.val < n → s (ix2 r l) = hscale cv sv w ws ⟨l.val, h⟩ r

theorem filled_step (q : ℕ) (hq : q < 9) (h : ℕ) (hh : h < 2) (s : FVec Ideal S256x128 .f32) (hs : Filled cv sv w ws (2 * q + h) s) :
    Filled cv sv w ws (2 * q + (h + 1))
      (select (cmpi .eq (iota .tc S256x128 32 [1] iota_S256x128_d1_w32) (broadcast S256x128 (BitVec.ofNat 32 (2 * q + h))))
        (exp2 (expo (groupMax (hidOf cv sv w ws q hq h hh)))) s) := by
  intro r l hl hn
  pointwise
  have hc : IntOp.cmpi CmpIPredicate.eq (BitVec.ofNat 32 l.val) (BitVec.ofNat 32 (2 * q + h)) = if l.val = 2 * q + h then 1#1 else 0#1 := by
    by_cases e : l.val = 2 * q + h
    · simp [IntOp.cmpi, e]
    · have hne : BitVec.ofNat 32 l.val ≠ BitVec.ofNat 32 (2 * q + h) := by
        intro h2
        have h3 := congrArg BitVec.toNat h2
        simp only [BitVec.toNat_ofNat] at h3
        omega
      rw [if_neg e]
      show BitVec.ofBool (_ == _) = _
      rw [beq_eq_false_iff_ne.mpr hne]
      rfl
  rw [hc]
  by_cases e : l.val = 2 * q + h
  · rw [if_pos e]
    show pow2 (ex (groupMax (hidOf cv sv w ws q hq h hh) (ix2 r l))) = _
    rw [groupMax_hidOf]
    unfold hscale
    congr 4
    exact e.symm
  · rw [if_neg e]
    exact hs r l hl (by omega)

end Cert.KernelIdeal.Body

end
-- ==== Proof.Tile.lean ====
module

public import proofs.«01_k».proof.Proof.TileSpec

/-! # The matmul of one tile

`tile` fills its half of the four output blocks. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Shapes1.Facts₀

local notation "𝕄" => MT nD τ sig Unit (Elt Ideal) ℕ (UR sig nD τ) ℕ

variable (cv : Vec Ideal S256x4608 .fp8e4m3) (sv : Vec Ideal S256x128 .f32) (w : Vec Ideal S18x2x4608x128 .fp8e4m3) (ws : Vec Ideal S18x2x128 .f32)

/-! ## What is stored -/

theorem row_eq (t b p : ℕ) (ht : t < 2) (hb : b < 2) (hp : p < 128) :
    row (⟨b, hb⟩ : Fin 2) (⟨128 * t + p, by omega⟩ : Fin 256) = (⟨128 * b + p, by omega⟩ : Fin 256) := by
  apply Fin.ext
  show 128 * b + (128 * t + p) % 128 = 128 * b + p
  omega

theorem xc_piece (t : ℕ) (ht : t < 2) (b : ℕ) (hb : b < 2) (z : S1x128x4608.Idx) :
    (shapeCast S1x128x4608 (fun x : S128x4608.Idx => cv ((Rect.unit (s := S256x4608) ![128 * b, 0] S128x4608.size (inb_cb b hb)).emb x))
      shapeCasts_S128x4608_S1x128x4608 : FVec Ideal S1x128x4608 .fp8e4m3) z
      = XC cv ((Rect.unit (s := S2x256x4608) ![b, 128 * t, 0] S1x128x4608.size (inb_xc t b ht hb)).emb z) := by
  have hz0 : (z 0).val < 1 := (z 0).isLt
  idx_vars z
  pointwise
  unfold XC
  have e0 : (Rect.unit (s := S2x256x4608) ![b, 128 * t, 0] S1x128x4608.size (inb_xc t b ht hb)).emb (ix3 z0 z1 z2) 0 = (⟨b, hb⟩ : Fin 2) := by
    apply Fin.ext
    rw [Rect.emb_apply]
    simp [Rect.unit]
  have e1 : (Rect.unit (s := S2x256x4608) ![b, 128 * t, 0] S1x128x4608.size (inb_xc t b ht hb)).emb (ix3 z0 z1 z2) 1 = (⟨128 * t + z1.val, by omega⟩ : Fin 256) := by
    apply Fin.ext
    rw [Rect.emb_apply]
    simp [Rect.unit]
  have e2 : (Rect.unit (s := S2x256x4608) ![b, 128 * t, 0] S1x128x4608.size (inb_xc t b ht hb)).emb (ix3 z0 z1 z2) 2 = z2 := by
    apply Fin.ext
    rw [Rect.emb_apply]
    simp [Rect.unit]
  rw [e0, e1, e2, row_eq t b z1.val ht hb z1.isLt]
  refine congrArg cv ?_
  funext a
  apply Fin.ext
  rw [Rect.emb_apply]
  fin_cases a <;> simp [Rect.unit]

theorem xs_piece (t : ℕ) (ht : t < 2) (b : ℕ) (hb : b < 2) (z : S1x1x128.Idx) :
    (shapeCast S1x1x128 (extractStridedSlice S1x128 ![0, 0] (transpose S128x128 [1, 0]
      (fun x : S128x128.Idx => sv ((Rect.unit (s := S256x128) ![128 * b, 0] S128x128.size (inb_sb b hb)).emb x)) transposes_S128x128_p1_0_S128x128)
      slices_S128x128_o0_0_S1x128) shapeCasts_S1x128_S1x1x128 : FVec Ideal S1x1x128 .f32) z
      = XS sv ((Rect.unit (s := S2x1x256) ![b, 0, 128 * t] S1x1x128.size (inb_xs t b ht hb)).emb z) := by
  idx_vars z
  pointwise
  unfold XS
  have e0 : (Rect.unit (s := S2x1x256) ![b, 0, 128 * t] S1x1x128.size (inb_xs t b ht hb)).emb (ix3 z0 z1 z2) 0 = (⟨b, hb⟩ : Fin 2) := by
    apply Fin.ext
    rw [Rect.emb_apply]
    simp [Rect.unit]
  have e2 : (Rect.unit (s := S2x1x256) ![b, 0, 128 * t] S1x1x128.size (inb_xs t b ht hb)).emb (ix3 z0 z1 z2) 2 = (⟨128 * t + z2.val, by omega⟩ : Fin 256) := by
    apply Fin.ext
    rw [Rect.emb_apply]
    simp [Rect.unit]
  rw [e0, e2, row_eq t b z2.val ht hb z2.isLt]
  refine congrArg sv ?_
  funext a
  apply Fin.ext
  rw [Rect.emb_apply]
  fin_cases a <;> simp [Rect.unit]

theorem hc_piece (t : ℕ) (ht : t < 2) (q : ℕ) (hq : q < 9) (h : ℕ) (hh : h < 2) (b : ℕ) (hb : b < 2) (z : S1x128x128.Idx) :
    shapeCast S1x128x128 (extractStridedSlice S128x128 ![128 * b, 0] (groupCode (hidOf cv sv w ws q hq h hh)) (slices_half b hb))
      shapeCasts_S128x128_S1x128x128 z
      = HC cv sv w ws ((Rect.unit (s := S2x256x2304) ![b, 128 * t, 128 * (2 * q + h)] S1x128x128.size (inb_hc t b (2 * q + h) ht hb (by omega))).emb z) := by
  idx_vars z
  pointwise
  rw [groupCode_hidOf]
  unfold HC
  have e0 : (Rect.unit (s := S2x256x2304) ![b, 128 * t, 128 * (2 * q + h)] S1x128x128.size (inb_hc t b (2 * q + h) ht hb (by omega))).emb (ix3 z0 z1 z2) 0 = (⟨b, hb⟩ : Fin 2) := by
    apply Fin.ext
    rw [Rect.emb_apply]
    simp [Rect.unit]
  have e1 : (Rect.unit (s := S2x256x2304) ![b, 128 * t, 128 * (2 * q + h)] S1x128x128.size (inb_hc t b (2 * q + h) ht hb (by omega))).emb (ix3 z0 z1 z2) 1 = (⟨128 * t + z1.val, by omega⟩ : Fin 256) := by
    apply Fin.ext
    rw [Rect.emb_apply]
    simp [Rect.unit]
  have e2 : ((Rect.unit (s := S2x256x2304) ![b, 128 * t, 128 * (2 * q + h)] S1x128x128.size (inb_hc t b (2 * q + h) ht hb (by omega))).emb (ix3 z0 z1 z2) 2).val = 128 * (2 * q + h) + z2.val := by
    rw [Rect.emb_apply]
    simp [Rect.unit]
  rw [e0, e1, row_eq t b z1.val ht hb z1.isLt]
  congr 1
  · exact Fin.ext (show 2 * q + h = _ / 128 by rw [e2]; omega)
  · exact Fin.ext (show z2.val = _ % 128 by rw [e2]; omega)

theorem hs_piece (t : ℕ) (ht : t < 2) (s : FVec Ideal S256x128 .f32) (hs : Filled cv sv w ws 18 s) (b : ℕ) (hb : b < 2) (g : ℕ) (hg : g < 18) (z : S1x1x128.Idx) :
    shapeCast S1x1x128 (extractStridedSlice S1x128 ![g, 0] (transpose S128x128 [1, 0]
      (extractStridedSlice S128x128 ![128 * b, 0] s (slices_half b hb)) transposes_S128x128_p1_0_S128x128) (slices_line g hg))
      shapeCasts_S1x128_S1x1x128 z
      = HS cv sv w ws ((Rect.unit (s := S18x2x256) ![g, b, 128 * t] S1x1x128.size (inb_hs t b g ht hb hg)).emb z) := by
  idx_vars z
  pointwise
  rw [hs _ _ (by simpa using hg) (by simpa using hg)]
  unfold HS
  have e0 : (Rect.unit (s := S18x2x256) ![g, b, 128 * t] S1x1x128.size (inb_hs t b g ht hb hg)).emb (ix3 z0 z1 z2) 0 = (⟨g, hg⟩ : Fin 18) := by
    apply Fin.ext
    rw [Rect.emb_apply]
    simp [Rect.unit]
  have e1 : (Rect.unit (s := S18x2x256) ![g, b, 128 * t] S1x1x128.size (inb_hs t b g ht hb hg)).emb (ix3 z0 z1 z2) 1 = (⟨b, hb⟩ : Fin 2) := by
    apply Fin.ext
    rw [Rect.emb_apply]
    simp [Rect.unit]
  have e2 : (Rect.unit (s := S18x2x256) ![g, b, 128 * t] S1x1x128.size (inb_hs t b g ht hb hg)).emb (ix3 z0 z1 z2) 2 = (⟨128 * t + z2.val, by omega⟩ : Fin 256) := by
    apply Fin.ext
    rw [Rect.emb_apply]
    simp [Rect.unit]
  rw [e0, e1, e2, row_eq t b z2.val ht hb z2.isLt]

/-! ## The steps -/

variable {cv sv w ws} {c : Dev nD} {Q : PUnit → sProp 𝕄}

theorem copy_wp (t : ℕ) (ht : t < 2) (cm : Memref sig .tc .vmem S256x4608 .fp8e4m3) (sm : Memref sig .tc .vmem S256x128 .f32)
    (xc : Memref sig .tc .vmem S2x256x4608 .fp8e4m3) (hxc : xc.IsWhole) (xs : Memref sig .tc .vmem S2x1x256 .f32)
    (G7 : Vec Ideal S2x256x4608 .fp8e4m3) (G8 : Vec Ideal S2x1x256 .f32)
    (h7 : ∀ y, (y 1).val / 128 = t → G7 y = XC cv y) (h8 : ∀ y, (y 2).val / 128 = t → G8 y = XS sv y)
    (b : ℕ) (hb : b < 2) (u : PUnit.{1}) (κ : PUnit.{1} → P Ideal) :
    (iprop(owns c cm fullShare cv ∗ owns c sm fullShare sv
        ∗ part c xc (fun y => (y 1).val < 128 * t ∨ (y 1).val < 128 * (t + 1) ∧ (y 0).val < b) G7
        ∗ part c xs (fun y => (y 2).val < 128 * t ∨ (y 2).val < 128 * (t + 1) ∧ (y 0).val < b) G8) : sProp 𝕄)
      ⊢ iprop((∀ u', iprop(owns c cm fullShare cv ∗ owns c sm fullShare sv
        ∗ part c xc (fun y => (y 1).val < 128 * t ∨ (y 1).val < 128 * (t + 1) ∧ (y 0).val < b + 1) G7
        ∗ part c xs (fun y => (y 2).val < 128 * t ∨ (y 2).val < 128 * (t + 1) ∧ (y 0).val < b + 1) G8) -∗ W c (κ u') Q)
        -∗ W c (copyStep t ht cm sm xc hxc xs b hb u κ) Q) := by
  unfold copyStep
  iintro ⟨Hc, Hs, H7, H8⟩ Hk
  iapply ld $$ Hc
  iintro Hc
  iapply ld_any $$ H7
  iintro H7
  iapply (st (fun y => (y 1).val < 128 * t ∨ (y 1).val < 128 * (t + 1) ∧ (y 0).val < b + 1) ?_ ?_ ?_) $$ H7
  · intro y hy
    by_cases h : (y 1).val < 128 * t ∨ (y 1).val < 128 * (t + 1) ∧ (y 0).val < b
    · exact .inr h
    · refine .inl fun a => ?_
      have h2 : (y 2).val < 4608 := (y 2).isLt
      fin_cases a
      · show b ≤ (y 0).val ∧ (y 0).val < b + 1; omega
      · show 128 * t ≤ (y 1).val ∧ (y 1).val < 128 * t + 128; omega
      · show 0 ≤ (y 2).val ∧ (y 2).val < 0 + 4608; omega
  · intro y hy; omega
  · intro z
    refine (xc_piece cv t ht b hb z).trans (h7 _ ?_).symm
    rw [Rect.emb_apply]
    have hz : (z 1).val < 128 := (z 1).isLt
    show (128 * t + 1 * (z 1).val) / 128 = t
    omega
  iintro H7
  iapply ld $$ Hs
  iintro Hs
  iapply ld_any $$ H8
  iintro H8
  iapply (st (fun y => (y 2).val < 128 * t ∨ (y 2).val < 128 * (t + 1) ∧ (y 0).val < b + 1) ?_ ?_ ?_) $$ H8
  · intro y hy
    by_cases h : (y 2).val < 128 * t ∨ (y 2).val < 128 * (t + 1) ∧ (y 0).val < b
    · exact .inr h
    · refine .inl fun a => ?_
      have h2 : (y 1).val < 1 := (y 1).isLt
      fin_cases a
      · show b ≤ (y 0).val ∧ (y 0).val < b + 1; omega
      · show 0 ≤ (y 1).val ∧ (y 1).val < 0 + 1; omega
      · show 128 * t ≤ (y 2).val ∧ (y 2).val < 128 * t + 128; omega
  · intro y hy; omega
  · intro z
    refine (xs_piece sv t ht b hb z).trans (h8 _ ?_).symm
    rw [Rect.emb_apply]
    have hz : (z 2).val < 128 := (z 2).isLt
    show (128 * t + 1 * (z 2).val) / 128 = t
    omega
  iintro H8
  iapply Hk
  isplitl [Hc]; · iexact Hc
  isplitl [Hs]; · iexact Hs
  isplitl [H7]; · iexact H7
  iexact H8

/-- The rows of a tile's half below a column. -/
abbrev HcS (t n : ℕ) : S2x256x2304.Idx → Prop := fun y => (y 1).val < 128 * t ∨ (y 1).val < 128 * (t + 1) ∧ (y 2).val < n

theorem code_wp (t : ℕ) (ht : t < 2) (q : ℕ) (hq : q < 9) (h : ℕ) (hh : h < 2) (hc : Memref sig .tc .vmem S2x256x2304 .fp8e4m3) (hhc : hc.IsWhole)
    (G5 : Vec Ideal S2x256x2304 .fp8e4m3) (h5 : ∀ y, (y 1).val / 128 = t → G5 y = HC cv sv w ws y)
    (b : ℕ) (hb : b < 2) (u : PUnit.{1}) (κ : PUnit.{1} → P Ideal) :
    (part c hc (fun y => HcS t (128 * (2 * q + h)) y ∨ HcS t (128 * (2 * q + h + 1)) y ∧ (y 0).val < b) G5 : sProp 𝕄)
      ⊢ iprop((∀ u', part c hc (fun y => HcS t (128 * (2 * q + h)) y ∨ HcS t (128 * (2 * q + h + 1)) y ∧ (y 0).val < b + 1) G5 -∗ W c (κ u') Q)
        -∗ W c (codeStep t (2 * q + h) ht (by omega) hc hhc (groupCode (hidOf cv sv w ws q hq h hh)) b hb u κ) Q) := by
  unfold codeStep
  iintro H Hk
  iapply ld_any $$ H
  iintro H
  iapply (st (fun y => HcS t (128 * (2 * q + h)) y ∨ HcS t (128 * (2 * q + h + 1)) y ∧ (y 0).val < b + 1) ?_ ?_ ?_) $$ H
  · intro y hy
    by_cases h' : HcS t (128 * (2 * q + h)) y ∨ HcS t (128 * (2 * q + h + 1)) y ∧ (y 0).val < b
    · exact .inr h'
    · refine .inl fun a => ?_
      fin_cases a
      · show b ≤ (y 0).val ∧ (y 0).val < b + 1; omega
      · show 128 * t ≤ (y 1).val ∧ (y 1).val < 128 * t + 128; omega
      · show 128 * (2 * q + h) ≤ (y 2).val ∧ (y 2).val < 128 * (2 * q + h) + 128; omega
  · intro y hy; omega
  · intro z
    refine (hc_piece cv sv w ws t ht q hq h hh b hb z).trans (h5 _ ?_).symm
    rw [Rect.emb_apply]
    have hz : (z 1).val < 128 := (z 1).isLt
    show (128 * t + 1 * (z 1).val) / 128 = t
    omega
  · iapply Hk

theorem group_wp (t : ℕ) (ht : t < 2) (wsm : Memref sig .tc .vmem S18x2x128 .f32) (qs : PosShare TreeShare)
    (hc : Memref sig .tc .vmem S2x256x2304 .fp8e4m3) (hhc : hc.IsWhole)
    (G5 : Vec Ideal S2x256x2304 .fp8e4m3) (h5 : ∀ y, (y 1).val / 128 = t → G5 y = HC cv sv w ws y)
    (q : ℕ) (hq : q < 9) (h : ℕ) (hh : h < 2) (s : FVec Ideal S256x128 .f32) (κ : FVec Ideal S256x128 .f32 → P Ideal) :
    (iprop(⌜Filled cv sv w ws (2 * q + h) s⌝ ∗ owns c wsm qs ws ∗ part c hc (HcS t (128 * (2 * q + h))) G5) : sProp 𝕄)
      ⊢ iprop((∀ s', iprop(⌜Filled cv sv w ws (2 * q + (h + 1)) s'⌝ ∗ owns c wsm qs ws ∗ part c hc (HcS t (128 * (2 * q + (h + 1)))) G5) -∗ W c (κ s') Q)
        -∗ W c (groupStep t ht wsm hc hhc (svblk sv) (accOf cv w q hq) q hq h hh s κ) Q) := by
  unfold groupStep
  iintro ⟨%hs, Hw, H⟩ Hk
  iapply ld $$ Hw
  iintro Hw
  iapply ld $$ Hw
  iintro Hw
  ihave H := (part_mono (S' := fun y : S2x256x2304.Idx => HcS t (128 * (2 * q + h)) y ∨ HcS t (128 * (2 * q + h + 1)) y ∧ (y 0).val < 2 - 2) (by intro y hy; omega)) $$ H
  iapply (wp_loop 2 _ (fun b _ => part c hc (fun y => HcS t (128 * (2 * q + h)) y ∨ HcS t (128 * (2 * q + h + 1)) y ∧ (y 0).val < b) G5) _
    (fun b hb u κ' => code_wp t ht q hq h hh hc hhc G5 h5 b hb u κ') 2 (le_refl _) ⟨⟩) $$ H
  iintro %u' H
  iapply Hk
  isplitr
  · ipureintro; exact filled_step cv sv w ws q hq h hh s hs
  isplitl [Hw]; · iexact Hw
  iapply (part_mono (c := c) (m := hc) (S := fun y => HcS t (128 * (2 * q + h)) y ∨ HcS t (128 * (2 * q + h + 1)) y ∧ (y 0).val < 2)
    (S' := HcS t (128 * (2 * q + (h + 1)))) (by
      intro y hy
      have h0 : (y 0).val < 2 := (y 0).isLt
      omega)) $$ H

theorem pair_wp (t : ℕ) (ht : t < 2) (wm : Memref sig .tc .vmem S18x2x4608x128 .fp8e4m3) (qw : PosShare TreeShare)
    (wsm : Memref sig .tc .vmem S18x2x128 .f32) (qs : PosShare TreeShare) (cm : Memref sig .tc .vmem S256x4608 .fp8e4m3)
    (hc : Memref sig .tc .vmem S2x256x2304 .fp8e4m3) (hhc : hc.IsWhole)
    (G5 : Vec Ideal S2x256x2304 .fp8e4m3) (h5 : ∀ y, (y 1).val / 128 = t → G5 y = HC cv sv w ws y)
    (q : ℕ) (hq : q < 9) (s : FVec Ideal S256x128 .f32) (κ : FVec Ideal S256x128 .f32 → P Ideal) :
    (iprop(⌜Filled cv sv w ws (2 * q) s⌝ ∗ owns c wm qw w ∗ owns c wsm qs ws ∗ owns c cm fullShare cv ∗ part c hc (HcS t (256 * q)) G5) : sProp 𝕄)
      ⊢ iprop((∀ s', iprop(⌜Filled cv sv w ws (2 * (q + 1)) s'⌝ ∗ owns c wm qw w ∗ owns c wsm qs ws ∗ owns c cm fullShare cv ∗ part c hc (HcS t (256 * (q + 1))) G5) -∗ W c (κ s') Q)
        -∗ W c (pairStep t ht wm wsm cm hc hhc (svblk sv) q hq s κ) Q) := by
  unfold pairStep
  iintro ⟨%hs, Hw, Hws, Hc, H⟩ Hk
  iapply ld $$ Hw
  iintro Hw
  iapply ld $$ Hw
  iintro Hw
  iapply ld $$ Hw
  iintro Hw
  iapply ld $$ Hw
  iintro Hw
  iapply ld $$ Hc
  iintro Hc
  ihave H := (part_mono (S' := HcS t (128 * (2 * q + (2 - 2)))) (by intro y hy; omega)) $$ H
  iapply (wp_loop 2 _ (fun h s => iprop(⌜Filled cv sv w ws (2 * q + h) s⌝ ∗ owns c wsm qs ws ∗ part c hc (HcS t (128 * (2 * q + h))) G5)) κ
    (fun h hh s κ' => group_wp t ht wsm qs hc hhc G5 h5 q hq h hh s κ') 2 (le_refl _) s) $$ [Hws H]
  · isplitr
    · ipureintro; exact hs
    isplitl [Hws]; · iexact Hws
    iexact H
  iintro %s' ⟨%hs', Hws, H⟩
  iapply Hk
  isplitr
  · ipureintro; exact hs'
  isplitl [Hw]; · iexact Hw
  isplitl [Hws]; · iexact Hws
  isplitl [Hc]; · iexact Hc
  iapply (part_mono (c := c) (m := hc) (S := HcS t (128 * (2 * q + 2))) (S' := HcS t (256 * (q + 1))) (by intro y hy; omega)) $$ H

theorem line_wp (t : ℕ) (ht : t < 2) (hs : Memref sig .tc .vmem S18x2x256 .f32) (s : FVec Ideal S256x128 .f32) (hf : Filled cv sv w ws 18 s)
    (G6 : Vec Ideal S18x2x256 .f32) (h6 : ∀ y, (y 2).val / 128 = t → G6 y = HS cv sv w ws y)
    (b : ℕ) (hb : b < 2) (g : ℕ) (hg : g < 18) (u : PUnit.{1}) (κ : PUnit.{1} → P Ideal) :
    (part c hs (fun y => (y 2).val < 128 * t ∨ (y 2).val < 128 * (t + 1) ∧ ((y 1).val < b ∨ (y 1).val < b + 1 ∧ (y 0).val < g)) G6 : sProp 𝕄)
      ⊢ iprop((∀ u', part c hs (fun y => (y 2).val < 128 * t ∨ (y 2).val < 128 * (t + 1) ∧ ((y 1).val < b ∨ (y 1).val < b + 1 ∧ (y 0).val < g + 1)) G6 -∗ W c (κ u') Q)
        -∗ W c (lineStep t b ht hb hs s g hg u κ) Q) := by
  unfold lineStep
  iintro H Hk
  iapply ld_any $$ H
  iintro H
  iapply (st (fun y => (y 2).val < 128 * t ∨ (y 2).val < 128 * (t + 1) ∧ ((y 1).val < b ∨ (y 1).val < b + 1 ∧ (y 0).val < g + 1)) ?_ ?_ ?_) $$ H
  · intro y hy
    by_cases h' : (y 2).val < 128 * t ∨ (y 2).val < 128 * (t + 1) ∧ ((y 1).val < b ∨ (y 1).val < b + 1 ∧ (y 0).val < g)
    · exact .inr h'
    · refine .inl fun a => ?_
      fin_cases a
      · show g ≤ (y 0).val ∧ (y 0).val < g + 1; omega
      · show b ≤ (y 1).val ∧ (y 1).val < b + 1; omega
      · show 128 * t ≤ (y 2).val ∧ (y 2).val < 128 * t + 128; omega
  · intro y hy; omega
  · intro z
    refine (hs_piece cv sv w ws t ht s hf b hb g hg z).trans (h6 _ ?_).symm
    rw [Rect.emb_apply]
    have hz : (z 2).val < 128 := (z 2).isLt
    show (128 * t + 1 * (z 2).val) / 128 = t
    omega
  · iapply Hk

theorem lines_wp (t : ℕ) (ht : t < 2) (hs : Memref sig .tc .vmem S18x2x256 .f32) (s : FVec Ideal S256x128 .f32) (hf : Filled cv sv w ws 18 s)
    (G6 : Vec Ideal S18x2x256 .f32) (h6 : ∀ y, (y 2).val / 128 = t → G6 y = HS cv sv w ws y)
    (b : ℕ) (hb : b < 2) (u : PUnit.{1}) (κ : PUnit.{1} → P Ideal) :
    (part c hs (fun y => (y 2).val < 128 * t ∨ (y 2).val < 128 * (t + 1) ∧ (y 1).val < b) G6 : sProp 𝕄)
      ⊢ iprop((∀ u', part c hs (fun y => (y 2).val < 128 * t ∨ (y 2).val < 128 * (t + 1) ∧ (y 1).val < b + 1) G6 -∗ W c (κ u') Q)
        -∗ W c (linesStep t ht hs s b hb u κ) Q) := by
  unfold linesStep
  iintro H Hk
  ihave H := (part_mono (S' := fun y : S18x2x256.Idx => (y 2).val < 128 * t ∨ (y 2).val < 128 * (t + 1) ∧ ((y 1).val < b ∨ (y 1).val < b + 1 ∧ (y 0).val < 18 - 18)) (by intro y hy; omega)) $$ H
  iapply (wp_loop 18 _ (fun g _ => part c hs (fun y => (y 2).val < 128 * t ∨ (y 2).val < 128 * (t + 1) ∧ ((y 1).val < b ∨ (y 1).val < b + 1 ∧ (y 0).val < g)) G6) κ
    (fun g hg u κ' => line_wp t ht hs s hf G6 h6 b hb g hg u κ') 18 (le_refl _) ⟨⟩) $$ H
  iintro %u' H
  iapply Hk
  iapply (part_mono (c := c) (m := hs) (S := fun y => (y 2).val < 128 * t ∨ (y 2).val < 128 * (t + 1) ∧ ((y 1).val < b ∨ (y 1).val < b + 1 ∧ (y 0).val < 18))
    (S' := fun y => (y 2).val < 128 * t ∨ (y 2).val < 128 * (t + 1) ∧ (y 1).val < b + 1) (by
      intro y hy
      have h0 : (y 0).val < 18 := (y 0).isLt
      omega)) $$ H

/-- What a tile holds before and after: its inputs, and the four output blocks filled up to a tile's half. -/
def TileI (c : Dev nD) (wm : Memref sig .tc .vmem S18x2x4608x128 .fp8e4m3) (qw : PosShare TreeShare)
    (wsm : Memref sig .tc .vmem S18x2x128 .f32) (qs : PosShare TreeShare) (cm : Memref sig .tc .vmem S256x4608 .fp8e4m3) (sm : Memref sig .tc .vmem S256x128 .f32)
    (hc : Memref sig .tc .vmem S2x256x2304 .fp8e4m3) (hs : Memref sig .tc .vmem S18x2x256 .f32)
    (xc : Memref sig .tc .vmem S2x256x4608 .fp8e4m3) (xs : Memref sig .tc .vmem S2x1x256 .f32)
    (cv : Vec Ideal S256x4608 .fp8e4m3) (sv : Vec Ideal S256x128 .f32) (w : Vec Ideal S18x2x4608x128 .fp8e4m3) (ws : Vec Ideal S18x2x128 .f32)
    (G5 : Vec Ideal S2x256x2304 .fp8e4m3) (G6 : Vec Ideal S18x2x256 .f32) (G7 : Vec Ideal S2x256x4608 .fp8e4m3) (G8 : Vec Ideal S2x1x256 .f32)
    (n : ℕ) : sProp 𝕄 :=
  iprop(owns c wm qw w ∗ owns c wsm qs ws ∗ owns c cm fullShare cv ∗ owns c sm fullShare sv
    ∗ part c hc (fun y => (y 1).val < n) G5 ∗ part c hs (fun y => (y 2).val < n) G6
    ∗ part c xc (fun y => (y 1).val < n) G7 ∗ part c xs (fun y => (y 2).val < n) G8)

/-- A tile's matmul fills its half of the four output blocks. -/
theorem tile_wp (t : ℕ) (ht : t < 2) (wm : Memref sig .tc .vmem S18x2x4608x128 .fp8e4m3) (qw : PosShare TreeShare)
    (wsm : Memref sig .tc .vmem S18x2x128 .f32) (qs : PosShare TreeShare) (cm : Memref sig .tc .vmem S256x4608 .fp8e4m3) (sm : Memref sig .tc .vmem S256x128 .f32)
    (hc : Memref sig .tc .vmem S2x256x2304 .fp8e4m3) (hhc : hc.IsWhole) (hs : Memref sig .tc .vmem S18x2x256 .f32)
    (xc : Memref sig .tc .vmem S2x256x4608 .fp8e4m3) (hxc : xc.IsWhole) (xs : Memref sig .tc .vmem S2x1x256 .f32)
    (G5 : Vec Ideal S2x256x2304 .fp8e4m3) (G6 : Vec Ideal S18x2x256 .f32) (G7 : Vec Ideal S2x256x4608 .fp8e4m3) (G8 : Vec Ideal S2x1x256 .f32)
    (h5 : ∀ y, (y 1).val / 128 = t → G5 y = HC cv sv w ws y) (h6 : ∀ y, (y 2).val / 128 = t → G6 y = HS cv sv w ws y)
    (h7 : ∀ y, (y 1).val / 128 = t → G7 y = XC cv y) (h8 : ∀ y, (y 2).val / 128 = t → G8 y = XS sv y) (κ : P Ideal) :
    (TileI c wm qw wsm qs cm sm hc hs xc xs cv sv w ws G5 G6 G7 G8 (128 * t) : sProp 𝕄)
      ⊢ iprop((TileI c wm qw wsm qs cm sm hc hs xc xs cv sv w ws G5 G6 G7 G8 (128 * (t + 1)) -∗ W c κ Q)
        -∗ W c (tile t ht wm wsm hc hhc hs xc hxc xs cm sm κ) Q) := by
  unfold TileI tile
  iintro ⟨Hw, Hws, Hc, Hs, H5, H6, H7, H8⟩ Hk
  ihave H7 := (part_mono (S' := fun y : S2x256x4608.Idx => (y 1).val < 128 * t ∨ (y 1).val < 128 * (t + 1) ∧ (y 0).val < 2 - 2) (by intro y hy; omega)) $$ H7
  ihave H8 := (part_mono (S' := fun y : S2x1x256.Idx => (y 2).val < 128 * t ∨ (y 2).val < 128 * (t + 1) ∧ (y 0).val < 2 - 2) (by intro y hy; omega)) $$ H8
  iapply (wp_loop 2 _ (fun b _ => iprop(owns c cm fullShare cv ∗ owns c sm fullShare sv
        ∗ part c xc (fun y => (y 1).val < 128 * t ∨ (y 1).val < 128 * (t + 1) ∧ (y 0).val < b) G7
        ∗ part c xs (fun y => (y 2).val < 128 * t ∨ (y 2).val < 128 * (t + 1) ∧ (y 0).val < b) G8)) _
    (fun b hb u κ' => copy_wp t ht cm sm xc hxc xs G7 G8 h7 h8 b hb u κ') 2 (le_refl _) ⟨⟩) $$ [Hc Hs H7 H8]
  · isplitl [Hc]; · iexact Hc
    isplitl [Hs]; · iexact Hs
    isplitl [H7]; · iexact H7
    iexact H8
  iintro %u' ⟨Hc, Hs, H7, H8⟩
  iapply ld $$ Hs
  iintro Hs
  ihave H5 := (part_mono (S' := HcS t (256 * (9 - 9))) (by intro y hy; omega)) $$ H5
  iapply (wp_loop 9 _ (fun q s => iprop(⌜Filled cv sv w ws (2 * q) s⌝ ∗ owns c wm qw w ∗ owns c wsm qs ws ∗ owns c cm fullShare cv ∗ part c hc (HcS t (256 * q)) G5)) _
    (fun q hq s κ' => pair_wp t ht wm qw wsm qs cm hc hhc G5 h5 q hq s κ') 9 (le_refl _) _) $$ [Hw Hws Hc H5]
  · isplitr
    · ipureintro; intro r l hl h0; omega
    isplitl [Hw]; · iexact Hw
    isplitl [Hws]; · iexact Hws
    isplitl [Hc]; · iexact Hc
    iexact H5
  iintro %s ⟨%hf, Hw, Hws, Hc, H5⟩
  ihave H6 := (part_mono (S' := fun y : S18x2x256.Idx => (y 2).val < 128 * t ∨ (y 2).val < 128 * (t + 1) ∧ (y 1).val < 2 - 2) (by intro y hy; omega)) $$ H6
  iapply (wp_loop 2 _ (fun b _ => part c hs (fun y => (y 2).val < 128 * t ∨ (y 2).val < 128 * (t + 1) ∧ (y 1).val < b) G6) _
    (fun b hb u κ' => lines_wp t ht hs s hf G6 h6 b hb u κ') 2 (le_refl _) ⟨⟩) $$ H6
  iintro %u'' H6
  iapply Hk
  isplitl [Hw]; · iexact Hw
  isplitl [Hws]; · iexact Hws
  isplitl [Hc]; · iexact Hc
  isplitl [Hs]; · iexact Hs
  isplitl [H5]
  · iapply (part_mono (c := c) (m := hc) (S := HcS t (256 * 9)) (S' := fun y => (y 1).val < 128 * (t + 1)) (by
      intro y hy
      have h2 : (y 2).val < 2304 := (y 2).isLt
      omega)) $$ H5
  isplitl [H6]
  · iapply (part_mono (c := c) (m := hs) (S := fun y => (y 2).val < 128 * t ∨ (y 2).val < 128 * (t + 1) ∧ (y 1).val < 2) (S' := fun y => (y 2).val < 128 * (t + 1)) (by
      intro y hy
      have h2 : (y 1).val < 2 := (y 1).isLt
      omega)) $$ H6
  isplitl [H7]
  · iapply (part_mono (c := c) (m := xc) (S := fun y => (y 1).val < 128 * t ∨ (y 1).val < 128 * (t + 1) ∧ (y 0).val < 2) (S' := fun y => (y 1).val < 128 * (t + 1)) (by
      intro y hy
      have h2 : (y 0).val < 2 := (y 0).isLt
      omega)) $$ H7
  iapply (part_mono (c := c) (m := xs) (S := fun y => (y 2).val < 128 * t ∨ (y 2).val < 128 * (t + 1) ∧ (y 0).val < 2) (S' := fun y => (y 2).val < 128 * (t + 1)) (by
      intro y hy
      have h2 : (y 0).val < 2 := (y 0).isLt
      omega)) $$ H8

end Cert.KernelIdeal.Body

end
-- ==== Proof.Run.lean ====
module

public import proofs.«01_k».proof.Proof.Flat
public import proofs.«01_k».proof.Proof.Quant
public import proofs.«01_k».proof.Proof.Tile

/-! # The kernel's run

What a grid point leaves in the four output blocks and in the carried scratch, and the whole program's run from it. -/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

section blocks
variable (cv cv' : Vec Ideal S256x4608 .fp8e4m3) (sv sv' : Vec Ideal S256x128 .f32)
  (w : Vec Ideal S18x2x4608x128 .fp8e4m3) (ws : Vec Ideal S18x2x128 .f32)

/-- The four output blocks of a grid point, from its two tiles. -/
def B5 : Vec Ideal S2x256x2304 .fp8e4m3 := fun y => if (y 1).val < 128 then HC cv sv w ws y else HC cv' sv' w ws y
def B6 : Vec Ideal S18x2x256 .f32 := fun y => if (y 2).val < 128 then HS cv sv w ws y else HS cv' sv' w ws y
def B7 : Vec Ideal S2x256x4608 .fp8e4m3 := fun y => if (y 1).val < 128 then XC cv y else XC cv' y
def B8 : Vec Ideal S2x1x256 .f32 := fun y => if (y 2).val < 128 then XS sv y else XS sv' y
end blocks

theorem ite_lo {p : Prop} [Decidable p] {α : Type} {a b : α} {n : ℕ} (hp : p ↔ n < 128) (h : n / 128 = 0) : (if p then a else b) = a :=
  if_pos (hp.mpr (by omega))
theorem ite_hi {p : Prop} [Decidable p] {α : Type} {a b : α} {n : ℕ} (hp : p ↔ n < 128) (h : n / 128 = 1) : (if p then a else b) = b :=
  if_neg (fun h' => by have := hp.mp h'; omega)

theorem part_start {c : Dev nD} {s : Shape} {e : EltTy} {m : Memref sig .tc .vmem s e} (G : s.Idx → Elt Ideal e) {S' : s.Idx → Prop} (h : ∀ y, ¬ S' y) :
    (iprop(∃ d, owns c m fullShare d) : sProp 𝕄) ⊢ part c m S' G :=
  part_of_any.trans (part_mono fun y hy => h y hy)

variable {c : Dev nD} {Q : PUnit → sProp 𝕄}

/-- The body past its conditional. -/
theorem rest_wp (arg2 : Memref sig .tc .vmem S2x128x4608 .bf16) (arg3 : Memref sig .tc .vmem S2x128x4608 .bf16)
    (arg4 : Memref sig .tc .vmem S18x2x4608x128 .fp8e4m3) (arg5 : Memref sig .tc .vmem S18x2x128 .f32)
    (arg6 : Memref sig .tc .vmem S2x256x2304 .fp8e4m3) (harg6 : arg6.IsWhole) (arg7 : Memref sig .tc .vmem S18x2x256 .f32)
    (arg8 : Memref sig .tc .vmem S2x256x4608 .fp8e4m3) (harg8 : arg8.IsWhole) (arg9 : Memref sig .tc .vmem S2x1x256 .f32)
    (arg10 : Memref sig .tc .vmem S256x4608 .fp8e4m3) (harg10 : arg10.IsWhole) (arg11 : Memref sig .tc .vmem S256x4608 .fp8e4m3)
    (harg11 : arg11.IsWhole) (arg12 : Memref sig .tc .vmem S256x128 .f32) (arg13 : Memref sig .tc .vmem S256x128 .f32)
    (cv : Vec Ideal S256x4608 .fp8e4m3) (sv : Vec Ideal S256x128 .f32) (x x' : Vec Ideal S2x128x4608 .bf16)
    (w : Vec Ideal S18x2x4608x128 .fp8e4m3) (ws : Vec Ideal S18x2x128 .f32) :
    (iprop(owns c arg2 fullShare x ∗ owns c arg3 fullShare x' ∗ owns c arg4 fullShare w ∗ owns c arg5 fullShare ws
      ∗ (∃ d, owns c arg6 fullShare d) ∗ (∃ d, owns c arg7 fullShare d) ∗ (∃ d, owns c arg8 fullShare d) ∗ (∃ d, owns c arg9 fullShare d)
      ∗ owns c arg10 fullShare cv ∗ (∃ d, owns c arg11 fullShare d) ∗ owns c arg12 fullShare sv ∗ (∃ d, owns c arg13 fullShare d)) : sProp 𝕄)
      ⊢ iprop((iprop(owns c arg2 fullShare x ∗ owns c arg3 fullShare x' ∗ owns c arg4 fullShare w ∗ owns c arg5 fullShare ws
        ∗ owns c arg6 fullShare (B5 cv (Codes x) sv (Scales x) w ws) ∗ owns c arg7 fullShare (B6 cv (Codes x) sv (Scales x) w ws)
        ∗ owns c arg8 fullShare (B7 cv (Codes x)) ∗ owns c arg9 fullShare (B8 sv (Scales x))
        ∗ owns c arg10 fullShare (Codes x') ∗ (∃ d, owns c arg11 fullShare d) ∗ owns c arg12 fullShare (Scales x') ∗ (∃ d, owns c arg13 fullShare d)) -∗ Q ⟨⟩)
      -∗ W c (rest arg2 arg3 arg4 arg5 arg6 harg6 arg7 arg8 harg8 arg9 arg10 harg10 arg11 harg11 arg12 arg13) Q) := by
  unfold rest
  iintro ⟨H2, H3, H4, H5, H6, H7, H8, H9, H10, H11, H12, H13⟩ Hk
  iapply (quant_wp arg2 arg11 harg11 arg13 fullShare x _) $$ [H2 H11 H13]
  · isplitl [H2]; · iexact H2
    isplitl [H11]; · iexact H11
    iexact H13
  iintro ⟨H2, H11, H13⟩
  ihave H6 := (part_start (B5 cv (Codes x) sv (Scales x) w ws) (S' := fun y : S2x256x2304.Idx => (y 1).val < 128 * 0) (by intro y hy; omega)) $$ H6
  ihave H7 := (part_start (B6 cv (Codes x) sv (Scales x) w ws) (S' := fun y : S18x2x256.Idx => (y 2).val < 128 * 0) (by intro y hy; omega)) $$ H7
  ihave H8 := (part_start (B7 cv (Codes x)) (S' := fun y : S2x256x4608.Idx => (y 1).val < 128 * 0) (by intro y hy; omega)) $$ H8
  ihave H9 := (part_start (B8 sv (Scales x)) (S' := fun y : S2x1x256.Idx => (y 2).val < 128 * 0) (by intro y hy; omega)) $$ H9
  iapply (tile_wp (cv := cv) (sv := sv) (w := w) (ws := ws) 0 Nat.zero_lt_two arg4 fullShare arg5 fullShare arg10 arg12 arg6 harg6 arg7 arg8 harg8 arg9 (B5 cv (Codes x) sv (Scales x) w ws) (B6 cv (Codes x) sv (Scales x) w ws)
    (B7 cv (Codes x)) (B8 sv (Scales x)) (fun y h => ite_lo Iff.rfl h) (fun y h => ite_lo Iff.rfl h) (fun y h => ite_lo Iff.rfl h) (fun y h => ite_lo Iff.rfl h) _) $$ [H4 H5 H10 H12 H6 H7 H8 H9]
  · unfold TileI
    isplitl [H4]; · iexact H4
    isplitl [H5]; · iexact H5
    isplitl [H10]; · iexact H10
    isplitl [H12]; · iexact H12
    isplitl [H6]; · iexact H6
    isplitl [H7]; · iexact H7
    isplitl [H8]; · iexact H8
    iexact H9
  unfold TileI
  iintro ⟨H4, H5, H10, H12, H6, H7, H8, H9⟩
  iapply (quant_wp arg3 arg10 harg10 arg12 fullShare x' _) $$ [H3 H10 H12]
  · isplitl [H3]; · iexact H3
    isplitl [H10]; · iexists _; iexact H10
    iexists _; iexact H12
  iintro ⟨H3, H10, H12⟩
  iapply (tile_wp (cv := Codes x) (sv := Scales x) (w := w) (ws := ws) 1 Nat.one_lt_two arg4 fullShare arg5 fullShare arg11 arg13 arg6 harg6 arg7 arg8 harg8 arg9 (B5 cv (Codes x) sv (Scales x) w ws) (B6 cv (Codes x) sv (Scales x) w ws)
    (B7 cv (Codes x)) (B8 sv (Scales x)) (fun y h => ite_hi Iff.rfl h) (fun y h => ite_hi Iff.rfl h) (fun y h => ite_hi Iff.rfl h) (fun y h => ite_hi Iff.rfl h) _) $$ [H4 H5 H11 H13 H6 H7 H8 H9]
  · unfold TileI
    isplitl [H4]; · iexact H4
    isplitl [H5]; · iexact H5
    isplitl [H11]; · iexact H11
    isplitl [H13]; · iexact H13
    isplitl [H6]; · iexact H6
    isplitl [H7]; · iexact H7
    isplitl [H8]; · iexact H8
    iexact H9
  unfold TileI
  iintro ⟨H4, H5, H11, H13, H6, H7, H8, H9⟩
  iapply le_wp_ret
  iapply Hk
  isplitl [H2]; · iexact H2
  isplitl [H3]; · iexact H3
  isplitl [H4]; · iexact H4
  isplitl [H5]; · iexact H5
  isplitl [H6]
  · iapply (owns_of_part (c := c) (m := arg6) (S := fun y => (y 1).val < 128 * (1 + 1)) (fun y => (y 1).isLt)) $$ H6
  isplitl [H7]
  · iapply (owns_of_part (c := c) (m := arg7) (S := fun y => (y 2).val < 128 * (1 + 1)) (fun y => (y 2).isLt)) $$ H7
  isplitl [H8]
  · iapply (owns_of_part (c := c) (m := arg8) (S := fun y => (y 1).val < 128 * (1 + 1)) (fun y => (y 1).isLt)) $$ H8
  isplitl [H9]
  · iapply (owns_of_part (c := c) (m := arg9) (S := fun y => (y 2).val < 128 * (1 + 1)) (fun y => (y 2).isLt)) $$ H9
  isplitl [H10]; · iexact H10
  isplitl [H11]; · iexists _; iexact H11
  isplitl [H12]; · iexact H12
  iexists _; iexact H13

/-! ## The proof data -/

variable (m : (ℓ : Loc nD τ sig) → Buf (Elt Ideal) ℓ) (ρ : Dev nD → PrngReg)

/-- The even tile of a grid point: the first point's own, later the one the point before looked ahead at. -/
def xe (c : Dev nD) : (n : ℕ) → n < cfg0.N → Vec Ideal S2x128x4608 .bf16
  | 0, h => iblk m c 0 ⟨0, h⟩
  | n + 1, h => iblk m c 2 ⟨n, Nat.lt_of_succ_lt h⟩

/-- The odd tile of a grid point. -/
def xo (c : Dev nD) (t : Fin cfg0.N) : Vec Ideal S2x128x4608 .bf16 := iblk m c 1 t

/-- The four output blocks of a grid point. -/
def o5 (c : Dev nD) (t : Fin cfg0.N) : Vec Ideal S2x256x2304 .fp8e4m3 :=
  B5 (Codes (xe m c t.val t.isLt)) (Codes (xo m c t)) (Scales (xe m c t.val t.isLt)) (Scales (xo m c t)) (iblk m c 3 t) (iblk m c 4 t)
def o6 (c : Dev nD) (t : Fin cfg0.N) : Vec Ideal S18x2x256 .f32 :=
  B6 (Codes (xe m c t.val t.isLt)) (Codes (xo m c t)) (Scales (xe m c t.val t.isLt)) (Scales (xo m c t)) (iblk m c 3 t) (iblk m c 4 t)
def o7 (c : Dev nD) (t : Fin cfg0.N) : Vec Ideal S2x256x4608 .fp8e4m3 := B7 (Codes (xe m c t.val t.isLt)) (Codes (xo m c t))
def o8 (c : Dev nD) (t : Fin cfg0.N) : Vec Ideal S2x1x256 .f32 := B8 (Scales (xe m c t.val t.isLt)) (Scales (xo m c t))

/-- The invariant before a grid point: the carried scratch holds the next even tile's codes and scales. -/
def PhiS (c : Dev nD) : (n : ℕ) → n ≤ cfg0.N → sProp 𝕄
  | 0, _ => Pipeline.ΦA spec0 c
  | n + 1, hn => iprop(iprop(owns (c : Thread nD τ) scM0_0 fullShare (Codes (iblk m c 2 ⟨n, hn⟩)) ∗ (∃ d, owns (c : Thread nD τ) scM0_1 fullShare d) ∗ owns (c : Thread nD τ) scM0_2 fullShare (Scales (iblk m c 2 ⟨n, hn⟩)) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (Codes (iblk m c 2 ⟨n, hn⟩)) ∗ (∃ d, owns (c : Thread nD τ) scM0_1 fullShare d) ∗ owns (c : Thread nD τ) scM0_2 fullShare (Scales (iblk m c 2 ⟨n, hn⟩)) ∗ (∃ d, owns (c : Thread nD τ) scM0_3 fullShare d)) ∗ (∃ r, prngReg c r)) := rfl

theorem PhiS_pos (c : Dev nD) (n : ℕ) (h : n ≤ cfg0.N) (h' : n < cfg0.N + 1) (hz : n ≠ 0) (hlt : n < cfg0.N) :
    PhiS m c n h = iprop(iprop(owns (c : Thread nD τ) scM0_0 fullShare (Codes (xe m c n hlt)) ∗ (∃ d, owns (c : Thread nD τ) scM0_1 fullShare d) ∗ owns (c : Thread nD τ) scM0_2 fullShare (Scales (xe m c n hlt)) ∗ (∃ d, owns (c : Thread nD τ) scM0_3 fullShare d)) ∗ (∃ r, prngReg c r)) := by
  cases n with
  | zero => exact absurd rfl hz
  | succ n => rfl

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => o5 m c t
    | ⟨6, _⟩ => o6 m c t
    | ⟨7, _⟩ => o7 m c t
    | ⟨8, _⟩ => o8 m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = o5 m c t := by dsimp only [dats]
theorem after0_6 (c : Dev nD) (t : Fin cfg0.N) : (dats m 0 c).after 6 t = o6 m c t := by dsimp only [dats]
theorem after0_7 (c : Dev nD) (t : Fin cfg0.N) : (dats m 0 c).after 7 t = o7 m c t := by dsimp only [dats]
theorem after0_8 (c : Dev nD) (t : Fin cfg0.N) : (dats m 0 c).after 8 t = o8 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7, after0_8]
  rw [show (dats m 0 c).Φ t.succ = PhiS m c (t.val + 1) t.isLt from rfl, PhiS_succ]
  have hN : t.val < 16 := lt_of_lt_of_eq t.isLt (show cfg0.N = 16 from N_0)
  by_cases hz : t.val = 0
  · have h0 : t.val % 16 = 0 := by omega
    have hxe : xe m c t.val t.isLt = iblk m c 0 t := by
      obtain ⟨n, hn⟩ := t
      obtain rfl : n = 0 := hz
      rfl
    rw [body_first (h := (hcond0_0 t).mpr h0)]
    rw [PhiS_castSucc m c t, PhiS_zero m c _ _ hz, PhiA0_eq]
    unfold o5 o6 o7 o8
    rw [hxe]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (quant_wp (c := c) (ms0_0 t) scM0_0 (Memref.isWhole_whole _) scM0_2 fullShare (iblk m c 0 t) _) $$ [H0 HS0 HS2]
    · isplitl [H0]; · iexact H0
      isplitl [HS0]; · iexact HS0
      iexact HS2
    iintro ⟨H0, HS0, HS2⟩
    iapply (rest_wp (c := c) (ms0_1 t) (ms0_2 t) (ms0_3 t) (ms0_4 t) (ms0_5 t) (hs0_5 t) (ms0_6 t) (ms0_7 t) (hs0_7 t) (ms0_8 t)
      scM0_0 (Memref.isWhole_whole _) scM0_1 (Memref.isWhole_whole _) scM0_2 scM0_3
      (Codes (iblk m c 0 t)) (Scales (iblk m c 0 t)) (iblk m c 1 t) (iblk m c 2 t) (iblk m c 3 t) (iblk m c 4 t)) $$ [H1 H2 H3 H4 H5 H6 H7 H8 HS0 HS1 HS2 HS3]
    · isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iexact HS3
    iintro ⟨H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · have h0 : ¬ t.val % 16 = 0 := by omega
    rw [body_rest (h := fun h => h0 ((hcond0_0 t).mp h))]
    rw [PhiS_castSucc m c t, PhiS_pos m c _ _ (by omega) hz t.isLt]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (rest_wp (c := c) (ms0_1 t) (ms0_2 t) (ms0_3 t) (ms0_4 t) (ms0_5 t) (hs0_5 t) (ms0_6 t) (ms0_7 t) (hs0_7 t) (ms0_8 t)
      scM0_0 (Memref.isWhole_whole _) scM0_1 (Memref.isWhole_whole _) scM0_2 scM0_3
      (Codes (xe m c t.val t.isLt)) (Scales (xe m c t.val t.isLt)) (iblk m c 1 t) (iblk m c 2 t) (iblk m c 3 t) (iblk m c 4 t)) $$ [H1 H2 H3 H4 H5 H6 H7 H8 HS0 HS1 HS2 HS3]
    · isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iexact HS3
    iintro ⟨H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (15 + 1) (le_of_eq N_0.symm) from rfl, PhiS_succ, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexists _; iexact HS2
    iexact HS3
  iexact Hg

set_option backward.isDefEq.respectTransparency.types false in
set_option maxHeartbeats 800000 in
/-- The whole program's run, every counter at zero in the end. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The whole program's run. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.Body

end
-- ==== Proof.Goal.lean ====
module

public import proofs.«01_k».proof.Proof.TileSpec

/-! # The results, element by element, as functions of the arguments

A tile's codes, scales and gated products are those of the positions of the sequence that the tile holds. -/

@[expose] public section

set_option maxRecDepth 16384

noncomputable section

namespace Cert.KernelIdeal.Body

open Idealize.ShloMosaic Idealize.ShloMosaic.TcCoe Idealize.ShloMosaic.Tactic
open Idealize.SL.Sem

section goal
variable (X : Vec Ideal S2x4096x4608 .bf16) (Wt : Vec Ideal S4608x18x2x128 .fp8e4m3) (Ws : Vec Ideal S18x2x128 .f32)

/-- The largest magnitude of a row of the activations. -/
def gAmax (b : Fin 2) (s : Fin 4096) : EReal := ⨆ k : Fin 4608, mag (X (ix3 b s k))
/-- An activation's code. -/
def gCode (b : Fin 2) (s : Fin 4096) (k : Fin 4608) : EReal := clip ((show EReal from X (ix3 b s k)) * exInv (gAmax X b s))
/-- A row's scale. -/
def gScale (b : Fin 2) (s : Fin 4096) : EReal := pow2 (ex (gAmax X b s))
/-- One projection (`h = 0` the gate, `h = 1` the up) of the coded row, with both scales. -/
def gProj (g : Fin 18) (h : Fin 2) (b : Fin 2) (s : Fin 4096) (l : Fin 128) : EReal :=
  (∑ k : Fin 4608, gCode X b s k * (show EReal from Wt (ix4 k g h l))) * gScale X b s * Ws (ix3 g h l)
/-- The gated product. -/
def gHid (g : Fin 18) (b : Fin 2) (s : Fin 4096) (l : Fin 128) : EReal := gate (gProj X Wt Ws g 0 b s l) (gProj X Wt Ws g 1 b s l)
/-- The largest magnitude of a group of the gated product. -/
def gHmax (g : Fin 18) (b : Fin 2) (s : Fin 4096) : EReal := ⨆ l : Fin 128, mag (gHid X Wt Ws g b s l)
/-- A group's scale. -/
def gHscale (g : Fin 18) (b : Fin 2) (s : Fin 4096) : EReal := pow2 (ex (gHmax X Wt Ws g b s))
/-- A code of the gated product. -/
def gHcode (g : Fin 18) (b : Fin 2) (s : Fin 4096) (l : Fin 128) : EReal := clip (gHid X Wt Ws g b s l * exInv (gHmax X Wt Ws g b s))

/-- The arrays the grid leaves: codes of the gated product, their scales, the activations' codes, their scales. -/
def G5 : Vec Ideal S2x4096x2304 .fp8e4m3 := fun y =>
  gHcode X Wt Ws ⟨(show Fin 2304 from y 2).val / 128, by omega⟩ (y 0) (y 1) ⟨(show Fin 2304 from y 2).val % 128, by omega⟩
def G6 : Vec Ideal S18x2x4096 .f32 := fun y => gHscale X Wt Ws (y 0) (y 1) (y 2)
def G7 : Vec Ideal S2x4096x4608 .fp8e4m3 := fun y => gCode X (y 0) (y 1) (y 2)
def G8 : Vec Ideal S2x1x4096 .f32 := fun y => gScale X (y 0) (y 2)

theorem rb_row (b : Fin 2) (p : Fin 256) : rb (row b p) = b := by
  apply Fin.ext; show (128 * b.val + p.val % 128) / 128 = b.val; omega
theorem rs_row (b : Fin 2) (p : Fin 256) : rs (row b p) = ⟨p.val % 128, by omega⟩ := by
  apply Fin.ext; show (128 * b.val + p.val % 128) % 128 = p.val % 128; omega

/-- A tile holds the 128 positions from `o`. -/
def IsTile (x : Vec Ideal S2x128x4608 .bf16) (o : ℕ) (ho : o + 128 ≤ 4096) : Prop :=
  ∀ (b : Fin 2) (s : Fin 128) (k : Fin 4608), x (ix3 b s k) = X (ix3 b (⟨o + s.val, by omega⟩ : Fin 4096) k)

variable {X} {x : Vec Ideal S2x128x4608 .bf16} {o : ℕ} {ho : o + 128 ≤ 4096} (hx : IsTile X x o ho)
  {w : Vec Ideal S18x2x4608x128 .fp8e4m3} {Wt}
  (hw : ∀ (g : Fin 18) (h : Fin 2) (k : Fin 4608) (l : Fin 128), w (ix4 g h k l) = Wt (ix4 k g h l))
include hx

theorem amax_tile (b : Fin 2) (s : Fin 128) : amax x b s = gAmax X b ⟨o + s.val, by omega⟩ :=
  iSup_congr fun k => congrArg mag (hx b s k)

theorem code_tile (b : Fin 2) (s : Fin 128) (k : Fin 4608) : code x b s k = gCode X b ⟨o + s.val, by omega⟩ k := by
  unfold code gCode
  rw [amax_tile hx b s, hx b s k]

theorem Codes_row (b : Fin 2) (p : Fin 256) (k : Fin 4608) :
    Codes x (ix2 (row b p) k) = gCode X b ⟨o + p.val % 128, by omega⟩ k := by
  show code x (rb (row b p)) (rs (row b p)) k = _
  rw [rb_row, rs_row, code_tile hx]

theorem Scales_row (b : Fin 2) (p : Fin 256) (l : Fin 128) :
    Scales x (ix2 (row b p) l) = gScale X b ⟨o + p.val % 128, by omega⟩ := by
  show pow2 (ex (amax x (rb (row b p)) (rs (row b p)))) = _
  rw [rb_row, rs_row, amax_tile hx]
  rfl

include hw

theorem proj_row (g : Fin 18) (h : Fin 2) (b : Fin 2) (p : Fin 256) (l : Fin 128) :
    proj (Codes x) (Scales x) w Ws g h (row b p) l = gProj X Wt Ws g h b ⟨o + p.val % 128, by omega⟩ l := by
  unfold proj gProj
  rw [Scales_row hx]
  congr 2
  exact Finset.sum_congr rfl fun k _ => Ideal.mul_congr (Codes_row hx b p k) (hw g h k l)

theorem hid_row (g : Fin 18) (b : Fin 2) (p : Fin 256) (l : Fin 128) :
    hid (Codes x) (Scales x) w Ws g (row b p) l = gHid X Wt Ws g b ⟨o + p.val % 128, by omega⟩ l := by
  unfold hid gHid
  rw [proj_row Ws hx hw, proj_row Ws hx hw]

theorem hmax_row (g : Fin 18) (b : Fin 2) (p : Fin 256) :
    hmax (Codes x) (Scales x) w Ws g (row b p) = gHmax X Wt Ws g b ⟨o + p.val % 128, by omega⟩ :=
  iSup_congr fun l => congrArg mag (hid_row Ws hx hw g b p l)

theorem hscale_row (g : Fin 18) (b : Fin 2) (p : Fin 256) :
    hscale (Codes x) (Scales x) w Ws g (row b p) = gHscale X Wt Ws g b ⟨o + p.val % 128, by omega⟩ := by
  unfold hscale gHscale
  rw [hmax_row Ws hx hw]

theorem hcode_row (g : Fin 18) (b : Fin 2) (p : Fin 256) (l : Fin 128) :
    hcode (Codes x) (Scales x) w Ws g (row b p) l = gHcode X Wt Ws g b ⟨o + p.val % 128, by omega⟩ l := by
  unfold hcode gHcode
  rw [hmax_row Ws hx hw, hid_row Ws hx hw]

end goal

end Cert.KernelIdeal.Body

end
-- ==== Proof.Final.lean ====
module

public import proofs.«01_k».proof.Proof.Run
public import proofs.«01_k».proof.Proof.Goal
public import Idealize.ShloMosaic.Lib.Pipeline.ValueKit

/-! # The arrays the kernel's grid leaves -/

@[expose] public section

set_option maxRecDepth 16384

noncomputable section

namespace Cert.KernelIdeal.Body

open Idealize.ShloMosaic Idealize.ShloMosaic.TcCoe Idealize.ShloMosaic.Tactic
open Idealize.SL.Sem
open Idealize.ShloMosaic.Pipeline (Dat Cfg Window)
open Cert.KernelIdeal.Gen

variable (m : (ℓ : Loc nD τ sig) → Buf (Elt Ideal) ℓ) (c : Dev nD)

/-- The arguments. -/
def aX : Vec Ideal S2x4096x4608 .bf16 := m ((c.tc : Thread nD τ).loc main_arg0)
def aWt : Vec Ideal S4608x18x2x128 .fp8e4m3 := m ((c.tc : Thread nD τ).loc main_arg1)
def aWs : Vec Ideal S18x2x128 .f32 := m ((c.tc : Thread nD τ).loc main_arg2)

theorem i0 : ∀ t : Fin cfg0.N, win0_0.index t = ![0, 0, 0] := (by decide +kernel : ∀ t : Fin grid0.N, _)
theorem i1 : ∀ t : Fin cfg0.N, win0_1.index t = ![0, 2 * t.val + 1, 0] := (by decide +kernel : ∀ t : Fin grid0.N, _)
theorem i2 : ∀ t : Fin cfg0.N, win0_2.index t = ![0, min (2 * t.val + 2) 31, 0] := (by decide +kernel : ∀ t : Fin grid0.N, _)
theorem i3 : ∀ t : Fin cfg0.N, win0_3.index t = ![0, 0, 0, 0] := (by decide +kernel : ∀ t : Fin grid0.N, _)
theorem i4 : ∀ t : Fin cfg0.N, win0_4.index t = ![0, 0, 0] := (by decide +kernel : ∀ t : Fin grid0.N, _)
theorem i5 : ∀ t : Fin cfg0.N, win0_5.index t = ![0, t.val, 0] := (by decide +kernel : ∀ t : Fin grid0.N, _)
theorem i6 : ∀ t : Fin cfg0.N, win0_6.index t = ![0, 0, t.val] := (by decide +kernel : ∀ t : Fin grid0.N, _)
theorem i7 : ∀ t : Fin cfg0.N, win0_7.index t = ![0, t.val, 0] := (by decide +kernel : ∀ t : Fin grid0.N, _)
theorem i8 : ∀ t : Fin cfg0.N, win0_8.index t = ![0, 0, t.val] := (by decide +kernel : ∀ t : Fin grid0.N, _)

theorem lt16 (t : Fin cfg0.N) : t.val < 16 := t.isLt

theorem tile_0 (t : Fin cfg0.N) : IsTile (aX m c) (iblk m c 0 t) 0 (by decide) := by
  intro b s k
  blk_simp [iblk]
  rw [V_main_arg0]
  refine congrArg (aX m c) ?_
  blk_ext [i0 t]

theorem tile_1 (t : Fin cfg0.N) : IsTile (aX m c) (iblk m c 1 t) (256 * t.val + 128) (by have := lt16 t; omega) := by
  intro b s k
  blk_simp [iblk]
  rw [V_main_arg0]
  refine congrArg (aX m c) ?_
  blk_ext [i1 t]

theorem tile_2 (t : Fin cfg0.N) (h : t.val < 15) : IsTile (aX m c) (iblk m c 2 t) (256 * (t.val + 1)) (by omega) := by
  intro b s k
  blk_simp [iblk]
  rw [V_main_arg0]
  refine congrArg (aX m c) ?_
  blk_ext [i2 t]

theorem tile_xo (t : Fin cfg0.N) : IsTile (aX m c) (xo m c t) (256 * t.val + 128) (by have := lt16 t; omega) := tile_1 m c t

theorem tile_xe (n : ℕ) (h : n < cfg0.N) : IsTile (aX m c) (xe m c n h) (256 * n) (by have := lt16 ⟨n, h⟩; simp only at this; omega) := by
  cases n with
  | zero => exact tile_0 m c ⟨0, h⟩
  | succ n => exact tile_2 m c ⟨n, Nat.lt_of_succ_lt h⟩ (by have := lt16 ⟨n + 1, h⟩; simp only at this ⊢; omega)

theorem w_blk (t : Fin cfg0.N) (g : Fin 18) (h : Fin 2) (k : Fin 4608) (l : Fin 128) :
    iblk m c 3 t (ix4 g h k l) = aWt m c (ix4 k g h l) := by
  have hV : V m c main_v0 = transpose S18x2x4608x128 [1, 2, 0, 3] (aWt m c) transposes_S4608x18x2x128_S18x2x4608x128_1_2_0_3 := by
    show StableHlo.after [hostOps0].flatten (fun b => m (c, b)) (Proc.tc.devRef main_v0) = _
    simp only [hostOps0, List.flatten_cons, List.flatten_nil, List.append_nil, StableHlo.after_cons, StableHlo.after_nil]
    rw [StableHlo.unary_result']
    rfl
  have e : ((win0_3.blk t).view.emb (ix4 g h k l)) = ix4 g h k l := by blk_ext [i3 t]
  blk_simp [iblk]
  rw [hV]
  erw [e]
  pointwise

theorem ws_blk (t : Fin cfg0.N) : iblk m c 4 t = aWs m c := by
  funext y
  blk_simp [iblk]
  rw [V_main_arg2]
  refine congrArg (aWs m c) ?_
  blk_ext [i4 t]

theorem final_5 : (dats m 0 c).arrAt 5 cfg0.N = G5 (aX m c) (aWt m c) (aWs m c) := by
  refine (dats m 0 c).arrAt_eq_of_covers 5 _ (by decide +kernel) fun t hf y => ?_
  blk_simp
  rw [after0_5]
  idx_vars y
  have ht := lt16 t
  have e : ((View.whole main_v1_0).slice (win0_5.rect t)).emb (ix3 y0 y1 y2) = ix3 y0 (⟨256 * t.val + y1.val, by omega⟩ : Fin 4096) y2 := by
    blk_ext [i5 t]
  rw [e]
  show (if y1.val < 128 then hcode _ _ _ _ _ (row y0 y1) _ else hcode _ _ _ _ _ (row y0 y1) _) = gHcode _ _ _ _ y0 _ _
  split
  · rw [hcode_row _ (tile_xe m c t.val t.isLt) (w_blk m c t), ws_blk]
    congr 2
    omega
  · rw [hcode_row _ (tile_xo m c t) (w_blk m c t), ws_blk]
    congr 2
    omega

theorem final_6 : (dats m 0 c).arrAt 6 cfg0.N = G6 (aX m c) (aWt m c) (aWs m c) := by
  refine (dats m 0 c).arrAt_eq_of_covers 6 _ (by decide +kernel) fun t hf y => ?_
  blk_simp
  rw [after0_6]
  idx_vars y
  have ht := lt16 t
  have e : ((View.whole main_v1_1).slice (win0_6.rect t)).emb (ix3 y0 y1 y2) = ix3 y0 y1 (⟨256 * t.val + y2.val, by omega⟩ : Fin 4096) := by
    blk_ext [i6 t]
  rw [e]
  show (if y2.val < 128 then hscale _ _ _ _ y0 (row y1 y2) else hscale _ _ _ _ y0 (row y1 y2)) = gHscale _ _ _ y0 y1 _
  split
  · rw [hscale_row _ (tile_xe m c t.val t.isLt) (w_blk m c t), ws_blk]
    congr 2
    omega
  · rw [hscale_row _ (tile_xo m c t) (w_blk m c t), ws_blk]
    congr 2
    omega

theorem final_7 : (dats m 0 c).arrAt 7 cfg0.N = G7 (aX m c) := by
  refine (dats m 0 c).arrAt_eq_of_covers 7 _ (by decide +kernel) fun t hf y => ?_
  blk_simp
  rw [after0_7]
  idx_vars y
  have ht := lt16 t
  have e : ((View.whole main_v1_2).slice (win0_7.rect t)).emb (ix3 y0 y1 y2) = ix3 y0 (⟨256 * t.val + y1.val, by omega⟩ : Fin 4096) y2 := by
    blk_ext [i7 t]
  rw [e]
  show (if y1.val < 128 then Codes _ (ix2 (row y0 y1) y2) else Codes _ (ix2 (row y0 y1) y2)) = gCode _ y0 _ y2
  split
  · rw [Codes_row (tile_xe m c t.val t.isLt)]
    congr 2
    omega
  · rw [Codes_row (tile_xo m c t)]
    congr 2
    omega

theorem final_8 : (dats m 0 c).arrAt 8 cfg0.N = G8 (aX m c) := by
  refine (dats m 0 c).arrAt_eq_of_covers 8 _ (by decide +kernel) fun t hf y => ?_
  blk_simp
  rw [after0_8]
  idx_vars y
  have ht := lt16 t
  have e : ((View.whole main_v1_3).slice (win0_8.rect t)).emb (ix3 y0 y1 y2) = ix3 y0 y1 (⟨256 * t.val + y2.val, by omega⟩ : Fin 4096) := by
    blk_ext [i8 t]
  rw [e]
  show (if y2.val < 128 then Scales _ (ix2 (row y0 y2) 0) else Scales _ (ix2 (row y0 y2) 0)) = gScale _ y0 _
  split
  · rw [Scales_row (tile_xe m c t.val t.isLt)]
    congr 2
    omega
  · rw [Scales_row (tile_xo m c t)]
    congr 2
    omega

/-! ## The two transposed results -/

/-- The scales of the gated product, as returned. -/
def T6 : Vec Ideal S2x4096x18 .f32 := transpose S2x4096x18 [1, 2, 0] (G6 (aX m c) (aWt m c) (aWs m c)) transposes_S18x2x4096_S2x4096x18_1_2_0
/-- The activations' scales, as returned. -/
def T8 : Vec Ideal S2x4096x1 .f32 := transpose S2x4096x1 [0, 2, 1] (G8 (aX m c)) transposes_S2x1x4096_S2x4096x1_0_2_1

theorem read_arr (w : Fin cfg0.W) :
    Pipeline.withArrays (cfgs 0).spec c (V0 m c) (fun w => (dats m 0 c).arrAt w (cfgs 0).N) (Proc.devRef .tc (Pipeline.arrRef spec0 w))
      = (dats m 0 c).arrAt w cfg0.N :=
  Pipeline.withArrays_arr_shared (cfgs 0).spec c (V0 m c) _
    ((dats m 0 c).arrAt_sharedIn sharedIn0 (V0 m c) (fun w => A_eq m c w) cfg0.N) w

theorem tail_v2 : Pipeline.afterTail₀ cfgs (dats m) 0 (V0 m) [hostOps1] c main_v2 = T6 m c := by
  unfold Pipeline.afterTail₀
  simp only [hostOps1, List.flatten_cons, List.flatten_nil, List.append_nil, StableHlo.after_cons, StableHlo.after_nil]
  rw [StableHlo.unary_result_ne' _ _ _ _ (by decide), StableHlo.unary_result']
  refine (congrArg (transpose S2x4096x18 [1, 2, 0] · transposes_S18x2x4096_S2x4096x18_1_2_0) (read_arr m c 6)).trans ?_
  exact congrArg (transpose S2x4096x18 [1, 2, 0] · transposes_S18x2x4096_S2x4096x18_1_2_0) (final_6 m c)

theorem tail_v3 : Pipeline.afterTail₀ cfgs (dats m) 0 (V0 m) [hostOps1] c main_v3 = T8 m c := by
  unfold Pipeline.afterTail₀
  simp only [hostOps1, List.flatten_cons, List.flatten_nil, List.append_nil, StableHlo.after_cons, StableHlo.after_nil]
  rw [StableHlo.unary_result', StableHlo.unary_result_ne' _ _ _ _ (by decide)]
  refine (congrArg (transpose S2x4096x1 [0, 2, 1] · transposes_S2x1x4096_S2x4096x1_0_2_1) (read_arr m c 8)).trans ?_
  exact congrArg (transpose S2x4096x1 [0, 2, 1] · transposes_S2x1x4096_S2x4096x1_0_2_1) (final_8 m c)

/-- The run, in closed form: the four results, and the arguments unchanged. -/
theorem run (ρ : Dev nD → PrngReg) : θ_run defs (onTc (τ := τ) (main (F := Ideal))) (s₀ m ρ) (fun r => ∀ c : Dev nD,
    r.2.mem ((c.tc : Thread nD τ).loc main_v1_0) = G5 (aX m c) (aWt m c) (aWs m c)
    ∧ r.2.mem ((c.tc : Thread nD τ).loc main_v2) = T6 m c
    ∧ r.2.mem ((c.tc : Thread nD τ).loc main_v1_2) = G7 (aX m c)
    ∧ r.2.mem ((c.tc : Thread nD τ).loc main_v3) = T8 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h c).1 5).trans (final_5 m c),
      ((h c).2 main_v2 (Pipeline.mem_restRefs_of main_v2 (by decide) (by decide))).trans (tail_v2 m c),
      ((h c).1 7).trans (final_7 m c),
      ((h c).2 main_v3 (Pipeline.mem_restRefs_of main_v3 (by decide) (by decide))).trans (tail_v3 m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).1 4).trans (((dats m 0 c).arrAt_in 4 rfl _).trans ((A_eq m c 4).trans (V_main_arg2 m c)))⟩) (run_main m ρ)

end Cert.KernelIdeal.Body

end
-- ==== Proof.RefSpec.lean ====
module

public import proofs.«01_k».proof.Proof.Goal
public import proofs.«01_k».proof.Proof.Gen.ReferenceIdeal.Skeleton
public import Idealize.ShloMosaic.Lib.Pointwise

/-! # What the reference computes, element by element -/

@[expose] public section

set_option maxRecDepth 16384

noncomputable section

namespace Cert.ReferenceIdeal.Body

open Idealize.ShloMosaic Idealize.ShloMosaic.TcCoe Idealize.ShloMosaic.Tactic
open Idealize.SL.Sem
open Cert.ReferenceIdeal.Gen
open Cert.KernelIdeal.Body (ex pow2 exInv clip mag gate gAmax gCode gScale gProj gHid gHmax gHscale gHcode fold_max ofBits_bot)

variable (X : Vec Ideal S2x4096x4608 .bf16) (Wt : Vec Ideal S4608x18x2x128 .fp8e4m3) (Ws : Vec Ideal S18x2x128 .f32)

theorem mag_nonneg (v : EReal) : 0 ≤ mag v := by
  rcases le_total 0 v with h | h
  · exact le_max_of_le_left h
  · exact le_max_of_le_right (EReal.neg_nonneg.mpr h)

/-- The reference's exponent: zero where the largest magnitude is zero. -/
def rexpo {s : Shape} (a : FVec Ideal s .f32) : FVec Ideal s .f32 :=
  select (cmpf .oeq a (broadcast s (Scalar.ofBits .f32 0x00000000#32))) (broadcast s (Scalar.ofBits .f32 0x00000000#32))
    (addf (floor (divf (log (mulf a (broadcast s (Scalar.ofBits .f32 0x3B124925#32))))
      (log (broadcast s (Scalar.ofBits .f32 0x40000000#32))))) (broadcast s (Scalar.ofBits .f32 0x3F800000#32)))

/-- The same at one element. -/
def rex (a : EReal) : EReal := rexpo (s := Cert.KernelIdeal.S32) (fun _ => a) (ix1 (0 : Fin 32))

theorem rexpo_apply {s : Shape} (a : FVec Ideal s .f32) (i : s.Idx) : rexpo a i = rex (a i) := rfl

theorem scale_pos : 0 < Ideal.ofBits .f32 0x3B124925#32 := by
  simp [Ideal.ofBits, Ideal.ieee]
  norm_num [← EReal.coe_mul]

/-- On a magnitude the two programs' exponents agree. -/
theorem rex_eq {a : EReal} (h : 0 ≤ a) : rex a = ex a := by
  unfold rex rexpo ex Cert.KernelIdeal.Body.expo
  pointwise
  rcases h.eq_or_lt with h | h
  · subst h
    simp
  · rw [if_neg h.ne', if_pos (EReal.mul_pos h scale_pos)]

theorem red (v : FVec Ideal S2x4096x4608 .f32) (b : Fin 2) (s : Fin 4096) :
    multiReduction .maximumf [2] S2x4096 v 0xFF800000#32 reduces_S2x4096x4608_S2x4096 (.inl rfl) rfl (ix2 b s) = ⨆ k, v (ix3 b s k) := by
  pointwise
  rw [ofBits_bot, fold_max]

theorem cast1 (v : FVec Ideal S2x4096 .f32) (b : Fin 2) (s : Fin 4096) :
    shapeCast S2x4096x1 v shapeCasts_S2x4096_S2x4096x1 (ix3 b s (0 : Fin 1)) = v (ix2 b s) := by
  pointwise

theorem gAmax_nonneg (b : Fin 2) (s : Fin 4096) : 0 ≤ gAmax X b s := (mag_nonneg _).trans (le_iSup (fun k : Fin 4608 => mag (X (ix3 b s k))) 0)
theorem gHmax_nonneg (g : Fin 18) (b : Fin 2) (s : Fin 4096) : 0 ≤ gHmax X Wt Ws g b s :=
  (mag_nonneg _).trans (le_iSup (fun l : Fin 128 => mag (gHid X Wt Ws g b s l)) 0)

theorem pay3_eq : k0_pay3 X = rexpo (shapeCast S2x4096x1 (multiReduction .maximumf [2] S2x4096 (absf (k0_pay2 X)) 0xFF800000#32
    reduces_S2x4096x4608_S2x4096 (.inl rfl) rfl) shapeCasts_S2x4096_S2x4096x1) := rfl

theorem pay3 (b : Fin 2) (s : Fin 4096) : k0_pay3 X (ix3 b s (0 : Fin 1)) = ex (gAmax X b s) := by
  rw [pay3_eq, rexpo_apply, cast1, red]
  exact rex_eq (gAmax_nonneg X b s)

theorem pay4 (b : Fin 2) (s : Fin 4096) : k0_pay4 X (ix3 b s (0 : Fin 1)) = gScale X b s := by
  show pow2 (k0_pay3 X (ix3 b s (0 : Fin 1))) = _
  rw [pay3]
  rfl

/-- Two to the negated exponent, as the reference computes it. -/
def rinv {s : Shape} (e : FVec Ideal s .f32) : FVec Ideal s .f32 := exp2 (subf (broadcast s (Scalar.ofBits .f32 0x00000000#32)) e)
def rinv1 (e : EReal) : EReal := rinv (s := Cert.KernelIdeal.S32) (fun _ => e) (ix1 (0 : Fin 32))
theorem rinv_apply {s : Shape} (e : FVec Ideal s .f32) (i : s.Idx) : rinv e i = rinv1 (e i) := rfl
theorem rinv1_ex (a : EReal) : rinv1 (ex a) = exInv a := rfl

theorem bc1 (v : FVec Ideal S2x4096x1 .f32) (b : Fin 2) (s : Fin 4096) (k : Fin 4608) :
    broadcastTo S2x4096x4608 v broadcasts_S2x4096x1_S2x4096x4608 (ix3 b s k) = v (ix3 b s (0 : Fin 1)) := by
  pointwise

/-- Clipped codes. -/
def rcode {s : Shape} (x v : FVec Ideal s .f32) : FVec Ideal s .fp8e4m3 :=
  truncf .fp8e4m3 (minimumf (broadcast s (Scalar.ofBits .f32 0x43E00000#32)) (maximumf (broadcast s (Scalar.ofBits .f32 0xC3E00000#32)) (mulf x v)))
    bitsLt_fp8e4m3_f32
theorem rcode_apply {s : Shape} (x v : FVec Ideal s .f32) (i : s.Idx) : rcode x v i = clip ((show EReal from x i) * v i) := rfl

theorem pay2 (i : S2x4096x4608.Idx) : k0_pay2 X i = X i := rfl

theorem pay5_eq : k0_pay5 X = rcode (k0_pay2 X) (broadcastTo S2x4096x4608 (rinv (k0_pay3 X)) broadcasts_S2x4096x1_S2x4096x4608) := rfl

theorem pay5 (b : Fin 2) (s : Fin 4096) (k : Fin 4608) : k0_pay5 X (ix3 b s k) = gCode X b s k := by
  rw [pay5_eq, rcode_apply, pay2, bc1, rinv_apply, pay3, rinv1_ex]
  unfold gCode
  with_reducible rfl

theorem dot (a : FVec Ideal S2x4096x4608 .fp8e4m3) (w : FVec Ideal S4608x18x2x128 .fp8e4m3) (b : Fin 2) (s : Fin 4096) (g : Fin 18) (h : Fin 2) (l : Fin 128) :
    matmul dot_S2x4096x4608_S4608x18x2x128_S2x4096x18x2x128_2_0_01_123_n_n none a w (constant S2x4096x18x2x128 .f32 0x00000000#32) (ix5 b s g h l)
      = ∑ k : Fin 4608, (show EReal from a (ix3 b s k)) * (show EReal from w (ix4 k g h l)) := by
  pointwise

theorem rowScale (v : FVec Ideal S2x4096x1 .f32) (b : Fin 2) (s : Fin 4096) (g : Fin 18) (h : Fin 2) (l : Fin 128) :
    broadcastTo S2x4096x18x2x128 (shapeCast S2x4096x1x1x1 v shapeCasts_S2x4096x1_S2x4096x1x1x1) broadcasts_S2x4096x1x1x1_S2x4096x18x2x128 (ix5 b s g h l)
      = v (ix3 b s (0 : Fin 1)) := by
  pointwise

theorem colScale (v : FVec Ideal S18x2x128 .f32) (b : Fin 2) (s : Fin 4096) (g : Fin 18) (h : Fin 2) (l : Fin 128) :
    broadcastTo S2x4096x18x2x128 (shapeCast S1x1x18x2x128 v shapeCasts_S18x2x128_S1x1x18x2x128) broadcasts_S1x1x18x2x128_S2x4096x18x2x128 (ix5 b s g h l)
      = v (ix3 g h l) := by
  pointwise

theorem mul3 {s : Shape} (x y z : FVec Ideal s .f32) (i : s.Idx) : mulf (mulf x y) z i = (show EReal from x i) * y i * z i := rfl

theorem pay6_eq : k0_pay6 X Wt Ws = mulf (mulf (matmul dot_S2x4096x4608_S4608x18x2x128_S2x4096x18x2x128_2_0_01_123_n_n (φ₂ := .fp8e4m3) none (k0_pay5 X) Wt
      (constant S2x4096x18x2x128 .f32 0x00000000#32))
      (broadcastTo S2x4096x18x2x128 (shapeCast S2x4096x1x1x1 (k0_pay4 X) shapeCasts_S2x4096x1_S2x4096x1x1x1) broadcasts_S2x4096x1x1x1_S2x4096x18x2x128))
      (broadcastTo S2x4096x18x2x128 (shapeCast S1x1x18x2x128 Ws shapeCasts_S18x2x128_S1x1x18x2x128) broadcasts_S1x1x18x2x128_S2x4096x18x2x128) := rfl

theorem pay6 (b : Fin 2) (s : Fin 4096) (g : Fin 18) (h : Fin 2) (l : Fin 128) : k0_pay6 X Wt Ws (ix5 b s g h l) = gProj X Wt Ws g h b s l := by
  rw [pay6_eq, mul3, dot, rowScale, colScale, pay4]
  have e : (∑ k : Fin 4608, (show EReal from k0_pay5 X (ix3 b s k)) * (show EReal from Wt (ix4 k g h l)))
      = ∑ k : Fin 4608, gCode X b s k * (show EReal from Wt (ix4 k g h l)) := Finset.sum_congr rfl fun k _ => Ideal.mul_congr (pay5 X b s k) (by with_reducible rfl)
  rw [e]
  unfold gProj
  with_reducible rfl

theorem half (o : ℕ) (ho : o < 2) (v : FVec Ideal S2x4096x18x2x128 .f32) (hs) (b : Fin 2) (s : Fin 4096) (g : Fin 18) (l : Fin 128) :
    shapeCast S2x4096x18x128 (extractStridedSlice S2x4096x18x1x128 ![0, 0, 0, o, 0] v hs) shapeCasts_S2x4096x18x1x128_S2x4096x18x128 (ix4 b s g l)
      = v (ix5 b s g (⟨o, ho⟩ : Fin 2) l) := by
  pointwise

end Cert.ReferenceIdeal.Body

end
-- ==== Proof.RefHid.lean ====
module

public import proofs.«01_k».proof.Proof.RefSpec
public import Idealize.ShloMosaic.Lib.Pointwise

/-! # The reference's gated product, element by element -/

@[expose] public section

set_option maxRecDepth 16384

noncomputable section

namespace Cert.ReferenceIdeal.Body

open Idealize.ShloMosaic Idealize.ShloMosaic.TcCoe Idealize.ShloMosaic.Tactic
open Idealize.SL.Sem
open Cert.ReferenceIdeal.Gen
open Cert.KernelIdeal.Body (ex pow2 exInv clip mag gate gAmax gCode gScale gProj gHid gHmax gHscale gHcode fold_max ofBits_bot)

variable (X : Vec Ideal S2x4096x4608 .bf16) (Wt : Vec Ideal S4608x18x2x128 .fp8e4m3) (Ws : Vec Ideal S18x2x128 .f32)

/-- The reference's gated product of two arrays. -/
def rgated {s : Shape} (g u : FVec Ideal s .f32) : FVec Ideal s .f32 :=
  mulf (mulf g (mulf (broadcast s (Scalar.ofBits .f32 0x3F000000#32))
    (addf (broadcast s (Scalar.ofBits .f32 0x3F800000#32))
      (tanh (mulf (broadcast s (Scalar.ofBits .f32 0x3F4C422A#32))
        (addf g (mulf (broadcast s (Scalar.ofBits .f32 0x3D372713#32)) (mulf g (mulf g g))))))))) u

/-- The same of two numbers. -/
def rgate (g u : EReal) : EReal := rgated (s := Cert.KernelIdeal.S32) (fun _ => g) (fun _ => u) (ix1 (0 : Fin 32))
theorem rgated_apply {s : Shape} (g u : FVec Ideal s .f32) (i : s.Idx) : rgated g u i = rgate (g i) (u i) := rfl

theorem rgate_eq (g u : EReal) : rgate g u = gate g u := by
  unfold rgate rgated gate Cert.KernelIdeal.Body.gated
  pointwise
  rw [mul_comm (g * g) g]

theorem pay7_eq : k0_pay7 X Wt Ws = shapeCast S2x4096x18x128 (extractStridedSlice S2x4096x18x1x128 ![0, 0, 0, 0, 0] (k0_pay6 X Wt Ws)
    slices_S2x4096x18x2x128_o0_0_0_0_0_S2x4096x18x1x128) shapeCasts_S2x4096x18x1x128_S2x4096x18x128 := rfl

theorem pay7 (b : Fin 2) (s : Fin 4096) (g : Fin 18) (l : Fin 128) : k0_pay7 X Wt Ws (ix4 b s g l) = gProj X Wt Ws g 0 b s l := by
  rw [pay7_eq, half 0 (by decide), pay6]
  exact congrArg (fun h => gProj X Wt Ws g h b s l) (rfl : (⟨0, by decide⟩ : Fin 2) = 0)

theorem pay8_eq (v : FVec Ideal S2x4096x18x2x128 .f32) (u : FVec Ideal S2x4096x18x128 .f32) :
    k0_pay8 v u = rgated u (shapeCast S2x4096x18x128 (extractStridedSlice S2x4096x18x1x128 ![0, 0, 0, 1, 0] v
      slices_S2x4096x18x2x128_o0_0_0_1_0_S2x4096x18x1x128) shapeCasts_S2x4096x18x1x128_S2x4096x18x128) := rfl

theorem pay8 (b : Fin 2) (s : Fin 4096) (g : Fin 18) (l : Fin 128) :
    k0_pay8 (k0_pay6 X Wt Ws) (k0_pay7 X Wt Ws) (ix4 b s g l) = gHid X Wt Ws g b s l := by
  rw [pay8_eq, rgated_apply, half 1 (by decide), pay6, pay7, rgate_eq]
  exact congrArg (fun h => gate (gProj X Wt Ws g 0 b s l) (gProj X Wt Ws g h b s l)) (rfl : (⟨1, by decide⟩ : Fin 2) = 1)

theorem red4 (v : FVec Ideal S2x4096x18x128 .f32) (b : Fin 2) (s : Fin 4096) (g : Fin 18) :
    multiReduction .maximumf [3] S2x4096x18 v 0xFF800000#32 reduces_S2x4096x18x128_S2x4096x18 (.inl rfl) rfl (ix3 b s g) = ⨆ l, v (ix4 b s g l) := by
  pointwise
  rw [ofBits_bot, fold_max]

theorem cast4 (v : FVec Ideal S2x4096x18 .f32) (b : Fin 2) (s : Fin 4096) (g : Fin 18) :
    shapeCast S2x4096x18x1 v shapeCasts_S2x4096x18_S2x4096x18x1 (ix4 b s g (0 : Fin 1)) = v (ix3 b s g) := by
  pointwise

theorem cast3 (v : FVec Ideal S2x4096x18x1 .f32) (b : Fin 2) (s : Fin 4096) (g : Fin 18) :
    shapeCast S2x4096x18 v shapeCasts_S2x4096x18x1_S2x4096x18 (ix3 b s g) = v (ix4 b s g (0 : Fin 1)) := by
  pointwise

theorem bc4 (v : FVec Ideal S2x4096x18x1 .f32) (b : Fin 2) (s : Fin 4096) (g : Fin 18) (l : Fin 128) :
    broadcastTo S2x4096x18x128 v broadcasts_S2x4096x18x1_S2x4096x18x128 (ix4 b s g l) = v (ix4 b s g (0 : Fin 1)) := by
  pointwise

theorem castn (v : FVec Ideal S2x4096x18x128 .fp8e4m3) (b : Fin 2) (s : Fin 4096) (n : Fin 2304) :
    shapeCast S2x4096x2304 v shapeCasts_S2x4096x18x128_S2x4096x2304 (ix3 b s n)
      = v (ix4 b s (⟨n.val / 128, by omega⟩ : Fin 18) (⟨n.val % 128, by omega⟩ : Fin 128)) := by
  pointwise

theorem absf_apply {s : Shape} (v : FVec Ideal s .f32) (i : s.Idx) : absf v i = mag (v i) := rfl

theorem pay9_eq (v : FVec Ideal S2x4096x18x2x128 .f32) (u : FVec Ideal S2x4096x18x128 .f32) :
    k0_pay9 v u = rexpo (shapeCast S2x4096x18x1 (multiReduction .maximumf [3] S2x4096x18 (absf (k0_pay8 v u)) 0xFF800000#32
      reduces_S2x4096x18x128_S2x4096x18 (.inl rfl) rfl) shapeCasts_S2x4096x18_S2x4096x18x1) := rfl

theorem pay9 (b : Fin 2) (s : Fin 4096) (g : Fin 18) :
    k0_pay9 (k0_pay6 X Wt Ws) (k0_pay7 X Wt Ws) (ix4 b s g (0 : Fin 1)) = ex (gHmax X Wt Ws g b s) := by
  have e : (⨆ l, absf (k0_pay8 (k0_pay6 X Wt Ws) (k0_pay7 X Wt Ws)) (ix4 b s g l)) = gHmax X Wt Ws g b s :=
    iSup_congr fun l => (absf_apply _ _).trans (congrArg mag (pay8 X Wt Ws b s g l))
  rw [pay9_eq, rexpo_apply, cast4, red4, e, rex_eq (gHmax_nonneg X Wt Ws g b s)]

theorem exp2_apply {s : Shape} (v : FVec Ideal s .f32) (i : s.Idx) : exp2 v i = pow2 (v i) := rfl

theorem pay10_eq (v : FVec Ideal S2x4096x18x2x128 .f32) (u : FVec Ideal S2x4096x18x128 .f32) : k0_pay10 v u = exp2 (k0_pay9 v u) := rfl
theorem pay1_eq (v : FVec Ideal S2x4096x18x1 .f32) : k0_pay1 v = shapeCast S2x4096x18 v shapeCasts_S2x4096x18x1_S2x4096x18 := rfl

theorem pay10 (b : Fin 2) (s : Fin 4096) (g : Fin 18) :
    k0_pay1 (k0_pay10 (k0_pay6 X Wt Ws) (k0_pay7 X Wt Ws)) (ix3 b s g) = gHscale X Wt Ws g b s := by
  rw [pay1_eq, cast3, pay10_eq, exp2_apply, pay9]
  unfold gHscale
  with_reducible rfl

theorem pay11_eq (v : FVec Ideal S2x4096x18x2x128 .f32) (u : FVec Ideal S2x4096x18x128 .f32) :
    k0_pay11 v u = shapeCast S2x4096x2304 (rcode (k0_pay8 v u) (broadcastTo S2x4096x18x128 (rinv (k0_pay9 v u)) broadcasts_S2x4096x18x1_S2x4096x18x128))
      shapeCasts_S2x4096x18x128_S2x4096x2304 := rfl

theorem pay11 (b : Fin 2) (s : Fin 4096) (n : Fin 2304) :
    k0_pay11 (k0_pay6 X Wt Ws) (k0_pay7 X Wt Ws) (ix3 b s n)
      = gHcode X Wt Ws ⟨n.val / 128, by omega⟩ b s ⟨n.val % 128, by omega⟩ := by
  rw [pay11_eq, castn, rcode_apply, pay8, bc4, rinv_apply, pay9, rinv1_ex]
  unfold gHcode
  with_reducible rfl

end Cert.ReferenceIdeal.Body

end
-- ==== Proof.RefFinal.lean ====
module

public import proofs.«01_k».proof.Proof.RefHid
public import proofs.«01_k».proof.Proof.Gen.ReferenceIdeal.Frame
public import Idealize.ShloMosaic.Lib.Pipeline.ValueKit

/-! # The arrays the reference returns -/

@[expose] public section

set_option maxRecDepth 16384

noncomputable section

namespace Cert.ReferenceIdeal.Body

open Idealize.ShloMosaic Idealize.ShloMosaic.TcCoe Idealize.ShloMosaic.Tactic
open Idealize.SL.Sem
open Idealize.ShloMosaic.Pipeline (Dat Cfg Window)
open Cert.ReferenceIdeal.Gen
open Cert.KernelIdeal.Body (gCode gScale gHscale gHcode G5 G6 G7 G8)

variable (m : (ℓ : Loc nD τ sig) → Buf (Elt Ideal) ℓ) (c : Dev nD)

/-- The arguments. -/
def aX : Vec Ideal S2x4096x4608 .bf16 := m ((c.tc : Thread nD τ).loc main_arg0)
def aWt : Vec Ideal S4608x18x2x128 .fp8e4m3 := m ((c.tc : Thread nD τ).loc main_arg1)
def aWs : Vec Ideal S18x2x128 .f32 := m ((c.tc : Thread nD τ).loc main_arg2)

theorem i0 : ∀ t : Fin cfg0.N, win0_0.index t = ![0, 0, 0] := (by decide +kernel : ∀ t : Fin grid0.N, _)
theorem i1 : ∀ t : Fin cfg0.N, win0_1.index t = ![0, 0, 0, 0] := (by decide +kernel : ∀ t : Fin grid0.N, _)
theorem i2 : ∀ t : Fin cfg0.N, win0_2.index t = ![0, 0, 0] := (by decide +kernel : ∀ t : Fin grid0.N, _)
theorem i3 : ∀ t : Fin cfg0.N, win0_3.index t = ![0, 0, 0] := (by decide +kernel : ∀ t : Fin grid0.N, _)
theorem i4 : ∀ t : Fin cfg0.N, win0_4.index t = ![0, 0, 0] := (by decide +kernel : ∀ t : Fin grid0.N, _)
theorem i5 : ∀ t : Fin cfg0.N, win0_5.index t = ![0, 0, 0] := (by decide +kernel : ∀ t : Fin grid0.N, _)
theorem i6 : ∀ t : Fin cfg0.N, win0_6.index t = ![0, 0, 0] := (by decide +kernel : ∀ t : Fin grid0.N, _)

theorem x_blk (t : Fin cfg0.N) : iblk m c 0 t = aX m c := by
  funext y
  blk_simp [iblk]
  refine congrArg (aX m c) ?_
  blk_ext [i0 t]
theorem w_blk (t : Fin cfg0.N) : iblk m c 1 t = aWt m c := by
  funext y
  blk_simp [iblk]
  refine congrArg (aWt m c) ?_
  blk_ext [i1 t]
theorem ws_blk (t : Fin cfg0.N) : iblk m c 2 t = aWs m c := by
  funext y
  blk_simp [iblk]
  refine congrArg (aWs m c) ?_
  blk_ext [i2 t]

/-- The scales of the gated product, as returned. -/
def T6 : Vec Ideal S2x4096x18 .f32 := fun y => gHscale (aX m c) (aWt m c) (aWs m c) (y 2) (y 0) (y 1)
/-- The activations' scales, as returned. -/
def T8 : Vec Ideal S2x4096x1 .f32 := fun y => gScale (aX m c) (y 0) (y 1)

theorem pay12_eq (x0 : Vec Ideal S2x4096x4608 .bf16) (x1 : Vec Ideal S4608x18x2x128 .fp8e4m3) (x2 : Vec Ideal S18x2x128 .f32) :
    k0_pay12 x0 x1 x2 = k0_pay6 x0 x1 x2 := by
  unfold k0_pay12
  rw [View.ld_unit_lit, View.ld_unit_lit, View.ld_unit_lit] <;> decide
theorem pay13_eq (x0 : Vec Ideal S2x4096x4608 .bf16) (x1 : Vec Ideal S4608x18x2x128 .fp8e4m3) (x2 : Vec Ideal S18x2x128 .f32) :
    k0_pay13 x0 x1 x2 = k0_pay7 x0 x1 x2 := by
  unfold k0_pay13
  rw [View.ld_unit_lit, View.ld_unit_lit, View.ld_unit_lit] <;> decide

theorem final_3 : (dats m 0 c).arrAt 3 cfg0.N = G5 (aX m c) (aWt m c) (aWs m c) := by
  refine (dats m 0 c).arrAt_eq_of_covers 3 _ (by decide +kernel) fun t hf y => ?_
  blk_simp
  rw [after0_3, x_blk, w_blk, ws_blk]
  unfold out0_3
  rw [pay12_eq, pay13_eq]
  frame_out
  idx_vars y
  have e : ((View.whole main_v0_0).slice (win0_3.rect t)).emb (ix3 y0 y1 y2) = ix3 y0 y1 y2 := by
    blk_ext [i3 t]
  rw [e]
  exact pay11 (aX m c) (aWt m c) (aWs m c) y0 y1 y2

theorem final_4 : (dats m 0 c).arrAt 4 cfg0.N = T6 m c := by
  refine (dats m 0 c).arrAt_eq_of_covers 4 _ (by decide +kernel) fun t hf y => ?_
  blk_simp
  rw [after0_4, x_blk, w_blk, ws_blk]
  unfold out0_4
  rw [pay12_eq, pay13_eq]
  frame_out
  idx_vars y
  have e : ((View.whole main_v0_1).slice (win0_4.rect t)).emb (ix3 y0 y1 y2) = ix3 y0 y1 y2 := by
    blk_ext [i4 t]
  rw [e]
  exact pay10 (aX m c) (aWt m c) (aWs m c) y0 y1 y2

theorem final_5 : (dats m 0 c).arrAt 5 cfg0.N = G7 (aX m c) := by
  refine (dats m 0 c).arrAt_eq_of_covers 5 _ (by decide +kernel) fun t hf y => ?_
  blk_simp
  rw [after0_5, x_blk]
  frame_out
  idx_vars y
  have e : ((View.whole main_v0_2).slice (win0_5.rect t)).emb (ix3 y0 y1 y2) = ix3 y0 y1 y2 := by
    blk_ext [i5 t]
  rw [e]
  exact pay5 (aX m c) y0 y1 y2

theorem final_6 : (dats m 0 c).arrAt 6 cfg0.N = T8 m c := by
  refine (dats m 0 c).arrAt_eq_of_covers 6 _ (by decide +kernel) fun t hf y => ?_
  blk_simp
  rw [after0_6, x_blk]
  frame_out
  idx_vars y
  have e : ((View.whole main_v0_3).slice (win0_6.rect t)).emb (ix3 y0 y1 y2) = ix3 y0 y1 y2 := by
    blk_ext [i6 t]
  rw [e]
  obtain rfl : y2 = 0 := Subsingleton.elim _ _
  exact pay4 (aX m c) y0 y1

/-- The run, in closed form: the four results, and the arguments unchanged. -/
theorem run (ρ : Dev nD → PrngReg) : θ_run defs (onTc (τ := τ) (main (F := Ideal))) (s₀ m ρ) (fun r => ∀ c : Dev nD,
    r.2.mem ((c.tc : Thread nD τ).loc main_v0_0) = G5 (aX m c) (aWt m c) (aWs m c)
    ∧ r.2.mem ((c.tc : Thread nD τ).loc main_v0_1) = T6 m c
    ∧ r.2.mem ((c.tc : Thread nD τ).loc main_v0_2) = G7 (aX m c)
    ∧ r.2.mem ((c.tc : Thread nD τ).loc main_v0_3) = T8 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h c).1 3).trans (final_3 m c),
      ((h c).1 4).trans (final_4 m c),
      ((h c).1 5).trans (final_5 m c),
      ((h c).1 6).trans (final_6 m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2))⟩) (run_main m ρ)

end Cert.ReferenceIdeal.Body

end
-- ==== Proof.Algebraic.lean ====
module

public import proofs.«01_k».proof.Defs
public import proofs.«01_k».proof.Proof.Final
public import proofs.«01_k».proof.Proof.RefFinal

/-! # The kernel computes the reference's results -/

@[expose] public section

set_option maxRecDepth 16384

noncomputable section

namespace Cert.Algebraic

open Idealize.ShloMosaic Idealize.ShloMosaic.TcCoe Idealize.ShloMosaic.Tactic
open Idealize.SL.Sem

section eqs
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's transposed scales of the gated product are the reference's. -/
theorem T6_eq (h0 : Cert.ReferenceIdeal.Body.aX m' c = Cert.KernelIdeal.Body.aX m c) (h1 : Cert.ReferenceIdeal.Body.aWt m' c = Cert.KernelIdeal.Body.aWt m c)
    (h2 : Cert.ReferenceIdeal.Body.aWs m' c = Cert.KernelIdeal.Body.aWs m c) : Cert.ReferenceIdeal.Body.T6 m' c = Cert.KernelIdeal.Body.T6 m c := by
  unfold Cert.ReferenceIdeal.Body.T6 Cert.KernelIdeal.Body.T6
  rw [h0, h1, h2]
  generalize Cert.KernelIdeal.Body.aX m c = X
  generalize Cert.KernelIdeal.Body.aWt m c = Wt
  generalize Cert.KernelIdeal.Body.aWs m c = Ws
  funext y
  idx_vars y
  pointwise
  rfl

/-- The kernel's transposed activation scales are the reference's. -/
theorem T8_eq (h0 : Cert.ReferenceIdeal.Body.aX m' c = Cert.KernelIdeal.Body.aX m c) : Cert.ReferenceIdeal.Body.T8 m' c = Cert.KernelIdeal.Body.T8 m c := by
  unfold Cert.ReferenceIdeal.Body.T8 Cert.KernelIdeal.Body.T8
  rw [h0]
  generalize Cert.KernelIdeal.Body.aX m c = X
  funext y
  idx_vars y
  pointwise
  rfl
end eqs

/-- From the same arguments the two programs end with equal results. -/
theorem algebraic [hKernelIdeal : Cert.KernelIdeal.Facts] [hReferenceIdeal : Cert.ReferenceIdeal.Facts] :
    Cert.algebraic_KernelIdeal_ReferenceIdeal := by
  intro m g m' g' _ ha
  have h0 : ∀ c, Cert.ReferenceIdeal.Body.aX m' c = Cert.KernelIdeal.Body.aX m c := fun c => (ha c).1
  have h1 : ∀ c, Cert.ReferenceIdeal.Body.aWt m' c = Cert.KernelIdeal.Body.aWt m c := fun c => (ha c).2.1
  have h2 : ∀ c, Cert.ReferenceIdeal.Body.aWs m' c = Cert.KernelIdeal.Body.aWs m c := fun c => (ha c).2.2
  refine ⟨_, _, _, _, Cert.KernelIdeal.Body.run m g, (θ_run Cert.ReferenceIdeal.defs _ _).mono (fun r h c => ?_) (Cert.ReferenceIdeal.Body.run m' g')⟩
  obtain ⟨r0, r1, r2, r3, r4, r5, r6⟩ := h c
  refine ⟨r0.trans ?_, r1.trans (T6_eq m m' c (h0 c) (h1 c) (h2 c)), r2.trans ?_, r3.trans (T8_eq m m' c (h0 c)), r4, r5, r6⟩
  · rw [h0 c, h1 c, h2 c]
  · rw [h0 c]

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨fun m ρ _ => Cert.Kernel.Gen.frame m ρ, fun m ρ _ => Cert.KernelIdeal.Gen.frame m ρ,
    fun m ρ _ => Cert.ReferenceIdeal.Gen.frame m ρ, trivial, Cert.Algebraic.algebraic⟩⟩

end Cert.Proof

end
